-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)) (v2 : (c : Dev Cert.KernelIdeal.nD) → Buf (Elt Ideal) ((c.tc : Thread Cert.KernelIdeal.nD Cert.KernelIdeal.τ).loc Cert.KernelIdeal.main_v7_2)) (v3 : (c : Dev Cert.KernelIdeal.nD) → Buf (Elt Ideal) ((c.tc : Thread Cert.KernelIdeal.nD Cert.KernelIdeal.τ).loc Cert.KernelIdeal.main_v7_3)) (v4 : (c : Dev Cert.KernelIdeal.nD) → Buf (Elt Ideal) ((c.tc : Thread Cert.KernelIdeal.nD Cert.KernelIdeal.τ).loc Cert.KernelIdeal.main_v7_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_v7_2) = v2 c
          ∧ r.2.mem ((c.tc : Thread Cert.KernelIdeal.nD Cert.KernelIdeal.τ).loc Cert.KernelIdeal.main_v7_3) = v3 c
          ∧ r.2.mem ((c.tc : Thread Cert.KernelIdeal.nD Cert.KernelIdeal.τ).loc Cert.KernelIdeal.main_v7_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11_0) = v0 c
          ∧ r.2.mem ((c.tc : Thread Cert.ReferenceIdeal.nD Cert.ReferenceIdeal.τ).loc Cert.ReferenceIdeal.main_v11_1) = v1 c
          ∧ r.2.mem ((c.tc : Thread Cert.ReferenceIdeal.nD Cert.ReferenceIdeal.τ).loc Cert.ReferenceIdeal.main_v11_2) = v2 c
          ∧ r.2.mem ((c.tc : Thread Cert.ReferenceIdeal.nD Cert.ReferenceIdeal.τ).loc Cert.ReferenceIdeal.main_v11_3) = v3 c
          ∧ r.2.mem ((c.tc : Thread Cert.ReferenceIdeal.nD Cert.ReferenceIdeal.τ).loc Cert.ReferenceIdeal.main_v11_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x1x8192 : Shape := ⟨3, ![4, 1, 8192]⟩
abbrev S4x1x16x128 : Shape := ⟨4, ![4, 1, 16, 128]⟩
abbrev S4x32768x16x128 : Shape := ⟨4, ![4, 32768, 16, 128]⟩
abbrev S4x32768x16 : Shape := ⟨3, ![4, 32768, 16]⟩
abbrev S4x64x128 : Shape := ⟨3, ![4, 64, 128]⟩
abbrev S4x16x128 : Shape := ⟨3, ![4, 16, 128]⟩
abbrev S4x524288x128 : Shape := ⟨3, ![4, 524288, 128]⟩
abbrev S4x16x32768 : Shape := ⟨3, ![4, 16, 32768]⟩
abbrev S4x16x1 : Shape := ⟨3, ![4, 16, 1]⟩
abbrev S1x64x128 : Shape := ⟨3, ![1, 64, 128]⟩
abbrev S1x16x128 : Shape := ⟨3, ![1, 16, 128]⟩
abbrev S1x16384x128 : Shape := ⟨3, ![1, 16384, 128]⟩
abbrev S1x16x1024 : Shape := ⟨3, ![1, 16, 1024]⟩
abbrev S1x16x1 : Shape := ⟨3, ![1, 16, 1]⟩
abbrev S64x1 : Shape := ⟨2, ![64, 1]⟩
abbrev S64x256 : Shape := ⟨2, ![64, 256]⟩
abbrev S64x128 : Shape := ⟨2, ![64, 128]⟩
abbrev S16384x128 : Shape := ⟨2, ![16384, 128]⟩
abbrev S4096x128 : Shape := ⟨2, ![4096, 128]⟩
abbrev S16x1024 : Shape := ⟨2, ![16, 1024]⟩
abbrev S16x128 : Shape := ⟨2, ![16, 128]⟩
abbrev S4x128 : Shape := ⟨2, ![4, 128]⟩
abbrev S32x4096 : Shape := ⟨2, ![32, 4096]⟩
abbrev S16x256 : Shape := ⟨2, ![16, 256]⟩
abbrev S32x256 : Shape := ⟨2, ![32, 256]⟩
abbrev S1024x4x128 : Shape := ⟨3, ![1024, 4, 128]⟩
abbrev S1024x1x128 : Shape := ⟨3, ![1024, 1, 128]⟩
abbrev S1024x128 : Shape := ⟨2, ![1024, 128]⟩
abbrev S16x256x4 : Shape := ⟨3, ![16, 256, 4]⟩
abbrev S16x256x1 : Shape := ⟨3, ![16, 256, 1]⟩
abbrev S256x16 : Shape := ⟨2, ![256, 16]⟩
abbrev S4096x1 : Shape := ⟨2, ![4096, 1]⟩
abbrev S4096x256 : Shape := ⟨2, ![4096, 256]⟩
abbrev S32x1 : Shape := ⟨2, ![32, 1]⟩
abbrev S32 : Shape := ⟨1, ![32]⟩
abbrev S16 : Shape := ⟨1, ![16]⟩
abbrev S16x1 : Shape := ⟨2, ![16, 1]⟩
abbrev S64x16 : Shape := ⟨2, ![64, 16]⟩
abbrev S64 : Shape := ⟨1, ![64]⟩

abbrev nBuf : Space → Nat
  | .hbm => 19
  | .vmem => 27
  | .smem => 0
  | _ => 0

abbrev bufTy : (tb : Table) → Fin (tcTables nBuf tb) → BufTy
  | .hbm, ⟨0, _⟩ => ⟨S4x1x8192, .bf16⟩
  | .hbm, ⟨1, _⟩ => ⟨S4x1x16x128, .bf16⟩
  | .hbm, ⟨2, _⟩ => ⟨S4x1x16x128, .bf16⟩
  | .hbm, ⟨3, _⟩ => ⟨S4x32768x16x128, .i8⟩
  | .hbm, ⟨4, _⟩ => ⟨S4x32768x16, .f32⟩
  | .hbm, ⟨5, _⟩ => ⟨S4x32768x16x128, .i8⟩
  | .hbm, ⟨6, _⟩ => ⟨S4x32768x16, .f32⟩
  | .hbm, ⟨7, _⟩ => ⟨S4x64x128, .bf16⟩
  | .hbm, ⟨8, _⟩ => ⟨S4x16x128, .bf16⟩
  | .hbm, ⟨9, _⟩ => ⟨S4x16x128, .bf16⟩
  | .hbm, ⟨10, _⟩ => ⟨S4x524288x128, .i8⟩
  | .hbm, ⟨11, _⟩ => ⟨S4x524288x128, .i8⟩
  | .hbm, ⟨12, _⟩ => ⟨S4x16x32768, .f32⟩
  | .hbm, ⟨13, _⟩ => ⟨S4x16x32768, .f32⟩
  | .hbm, ⟨14, _⟩ => ⟨S4x64x128, .bf16⟩
  | .hbm, ⟨15, _⟩ => ⟨S4x16x128, .i8⟩
  | .hbm, ⟨16, _⟩ => ⟨S4x16x1, .f32⟩
  | .hbm, ⟨17, _⟩ => ⟨S4x16x128, .i8⟩
  | .hbm, ⟨18, _⟩ => ⟨S4x16x1, .f32⟩
  | .local _ .vmem, ⟨0, _⟩ => ⟨S1x64x128, .bf16⟩
  | .local _ .vmem, ⟨1, _⟩ => ⟨S1x64x128, .bf16⟩
  | .local _ .vmem, ⟨2, _⟩ => ⟨S1x16x128, .bf16⟩
  | .local _ .vmem, ⟨3, _⟩ => ⟨S1x16x128, .bf16⟩
  | .local _ .vmem, ⟨4, _⟩ => ⟨S1x16x128, .bf16⟩
  | .local _ .vmem, ⟨5, _⟩ => ⟨S1x16x128, .bf16⟩
  | .local _ .vmem, ⟨6, _⟩ => ⟨S1x16384x128, .i8⟩
  | .local _ .vmem, ⟨7, _⟩ => ⟨S1x16384x128, .i8⟩
  | .local _ .vmem, ⟨8, _⟩ => ⟨S1x16x1024, .f32⟩
  | .local _ .vmem, ⟨9, _⟩ => ⟨S1x16x1024, .f32⟩
  | .local _ .vmem, ⟨10, _⟩ => ⟨S1x16384x128, .i8⟩
  | .local _ .vmem, ⟨11, _⟩ => ⟨S1x16384x128, .i8⟩
  | .local _ .vmem, ⟨12, _⟩ => ⟨S1x16x1024, .f32⟩
  | .local _ .vmem, ⟨13, _⟩ => ⟨S1x16x1024, .f32⟩
  | .local _ .vmem, ⟨14, _⟩ => ⟨S1x64x128, .bf16⟩
  | .local _ .vmem, ⟨15, _⟩ => ⟨S1x64x128, .bf16⟩
  | .local _ .vmem, ⟨16, _⟩ => ⟨S1x16x128, .i8⟩
  | .local _ .vmem, ⟨17, _⟩ => ⟨S1x16x128, .i8⟩
  | .local _ .vmem, ⟨18, _⟩ => ⟨S1x16x1, .f32⟩
  | .local _ .vmem, ⟨19, _⟩ => ⟨S1x16x1, .f32⟩
  | .local _ .vmem, ⟨20, _⟩ => ⟨S1x16x128, .i8⟩
  | .local _ .vmem, ⟨21, _⟩ => ⟨S1x16x128, .i8⟩
  | .local _ .vmem, ⟨22, _⟩ => ⟨S1x16x1, .f32⟩
  | .local _ .vmem, ⟨23, _⟩ => ⟨S1x16x1, .f32⟩
  | .local _ .vmem, ⟨24, _⟩ => ⟨S64x1, .f32⟩
  | .local _ .vmem, ⟨25, _⟩ => ⟨S64x1, .f32⟩
  | .local _ .vmem, ⟨26, _⟩ => ⟨S64x256, .f32⟩
  | _, _ => ⟨S4x1x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v7_3 : Ref sig .tc := ⟨.hbm, 17, rfl⟩
abbrev main_v7_4 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![4, 32], ![false, false]⟩

def k0_cond2 (i : grid0.Coords) : BitVec 1 :=
  let arg1 : BitVec 32 := BitVec.ofNat 32 (i 1).val
  let c31_i32 : BitVec 32 := 31#32
  let v717 : BitVec 1 := Scalar.cmpi .eq arg1 c31_i32
  let v718 : BitVec 32 := Scalar.extui v717
  let c0_i32_112 : BitVec 32 := 0#32
  let v719 : BitVec 1 := Scalar.cmpi .ne v718 c0_i32_112
  v719

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x16x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x16x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x16384x128 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16384x128 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x16x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x16x128 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x16x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x16x128 .i8 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x16x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== ReferenceIdeal.lean ====
abbrev S4x1x8192 : Shape := ⟨3, ![4, 1, 8192]⟩
abbrev S4x1x16x128 : Shape := ⟨4, ![4, 1, 16, 128]⟩
abbrev S4x32768x16x128 : Shape := ⟨4, ![4, 32768, 16, 128]⟩
abbrev S4x32768x16 : Shape := ⟨3, ![4, 32768, 16]⟩
abbrev S64x4x128 : Shape := ⟨3, ![64, 4, 128]⟩
abbrev S4x16x128 : Shape := ⟨3, ![4, 16, 128]⟩
abbrev S4x16x32768x128 : Shape := ⟨4, ![4, 16, 32768, 128]⟩
abbrev S64x32768x128 : Shape := ⟨3, ![64, 32768, 128]⟩
abbrev S4x16x32768 : Shape := ⟨3, ![4, 16, 32768]⟩
abbrev S64x32768x1 : Shape := ⟨3, ![64, 32768, 1]⟩
abbrev S4x64x128 : Shape := ⟨3, ![4, 64, 128]⟩
abbrev S4x16x1 : Shape := ⟨3, ![4, 16, 1]⟩
abbrev S4x16 : Shape := ⟨2, ![4, 16]⟩
abbrev S64x1x128 : Shape := ⟨3, ![64, 1, 128]⟩
abbrev S64x4x32768 : Shape := ⟨3, ![64, 4, 32768]⟩
abbrev S64x4x1 : Shape := ⟨3, ![64, 4, 1]⟩
abbrev S64x4 : Shape := ⟨2, ![64, 4]⟩

abbrev nBuf : Space → Nat
  | .hbm => 23
  | .vmem => 12
  | .smem => 0
  | _ => 0

abbrev bufTy : (tb : Table) → Fin (tcTables nBuf tb) → BufTy
  | .hbm, ⟨0, _⟩ => ⟨S4x1x8192, .bf16⟩
  | .hbm, ⟨1, _⟩ => ⟨S4x1x16x128, .bf16⟩
  | .hbm, ⟨2, _⟩ => ⟨S4x1x16x128, .bf16⟩
  | .hbm, ⟨3, _⟩ => ⟨S4x32768x16x128, .i8⟩
  | .hbm, ⟨4, _⟩ => ⟨S4x32768x16, .f32⟩
  | .hbm, ⟨5, _⟩ => ⟨S4x32768x16x128, .i8⟩
  | .hbm, ⟨6, _⟩ => ⟨S4x32768x16, .f32⟩
  | .hbm, ⟨7, _⟩ => ⟨S64x4x128, .bf16⟩
  | .hbm, ⟨8, _⟩ => ⟨S4x16x128, .bf16⟩
  | .hbm, ⟨9, _⟩ => ⟨S4x16x128, .bf16⟩
  | .hbm, ⟨10, _⟩ => ⟨S4x16x32768x128, .i8⟩
  | .hbm, ⟨11, _⟩ => ⟨S64x32768x128, .i8⟩
  | .hbm, ⟨12, _⟩ => ⟨S4x16x32768, .f32⟩
  | .hbm, ⟨13, _⟩ => ⟨S64x32768x1, .f32⟩
  | .hbm, ⟨14, _⟩ => ⟨S4x16x32768x128, .i8⟩
  | .hbm, ⟨15, _⟩ => ⟨S64x32768x128, .i8⟩
  | .hbm, ⟨16, _⟩ => ⟨S4x16x32768, .f32⟩
  | .hbm, ⟨17, _⟩ => ⟨S64x32768x1, .f32⟩
  | .hbm, ⟨18, _⟩ => ⟨S4x64x128, .bf16⟩
  | .hbm, ⟨19, _⟩ => ⟨S4x16x128, .i8⟩
  | .hbm, ⟨20, _⟩ => ⟨S4x16x1, .f32⟩
  | .hbm, ⟨21, _⟩ => ⟨S4x16x128, .i8⟩
  | .hbm, ⟨22, _⟩ => ⟨S4x16x1, .f32⟩
  | .local _ .vmem, ⟨0, _⟩ => ⟨S64x4x128, .bf16⟩
  | .local _ .vmem, ⟨1, _⟩ => ⟨S4x16x128, .bf16⟩
  | .local _ .vmem, ⟨2, _⟩ => ⟨S4x16x128, .bf16⟩
  | .local _ .vmem, ⟨3, _⟩ => ⟨S64x32768x128, .i8⟩
  | .local _ .vmem, ⟨4, _⟩ => ⟨S64x32768x1, .f32⟩
  | .local _ .vmem, ⟨5, _⟩ => ⟨S64x32768x128, .i8⟩
  | .local _ .vmem, ⟨6, _⟩ => ⟨S64x32768x1, .f32⟩
  | .local _ .vmem, ⟨7, _⟩ => ⟨S4x64x128, .bf16⟩
  | .local _ .vmem, ⟨8, _⟩ => ⟨S4x16x128, .i8⟩
  | .local _ .vmem, ⟨9, _⟩ => ⟨S4x16x1, .f32⟩
  | .local _ .vmem, ⟨10, _⟩ => ⟨S4x16x128, .i8⟩
  | .local _ .vmem, ⟨11, _⟩ => ⟨S4x16x1, .f32⟩
  | _, _ => ⟨S4x1x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev main_v11_2 : Ref sig .tc := ⟨.hbm, 20, rfl⟩
abbrev main_v11_3 : Ref sig .tc := ⟨.hbm, 21, rfl⟩
abbrev main_v11_4 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S64x4x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x16x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x16x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x32768x128 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x32768x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x32768x128 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x32768x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x64x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x16x128 .i8 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4x16x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S4x16x128 .i8 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S4x16x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.Words.lean ====
/-
  The cache of one grid point, dequantised: the kernel's scale words and its strided code rows as
  uniform terms over the quad `j` of four key/value heads, and each read at an index — row
  `4T + hh` of the dequantised quad `j` is token `T`'s codes of head `4j + hh` times that token's
  scale of that head.
-/
module

public import proofs.«01_k».proof.Proof.Gen.KernelIdeal.Skeleton
public import Idealize.ShloMosaic.Lib.Pipeline.Value
public import Idealize.ShloMosaic.Lib.KernelVsHost
public import Idealize.ShloMosaic.Lib.BitcastFour
public import Idealize.ShloMosaic.Lib.Pointwise

@[expose] public section

set_option maxRecDepth 16384

noncomputable section

namespace Cert.KernelIdeal.Hand

open Cert.KernelIdeal Cert.KernelIdeal.Gen Idealize.ShloMosaic

variable {F : FTy → Type} [FloatOps F]

/-! ## The scale words -/

theorem slices_chunk (c : ℕ) (hc : c < 8) : S16x1024.Slices ![0, 128 * c] S16x128 :=
  ⟨rfl, fun a => by
    match a with
    | ⟨0, _⟩ => exact Nat.le_refl 16
    | ⟨1, _⟩ => show 128 * c + 128 ≤ 1024; omega⟩

theorem slices_rows (j : ℕ) (hj : j < 4) : S16x128.Slices ![4 * j, 0] S4x128 :=
  ⟨rfl, fun a => by
    match a with
    | ⟨0, _⟩ => show 4 * j + 4 ≤ 16; omega
    | ⟨1, _⟩ => exact Nat.le_refl 128⟩

/-- Lanes `128c … 128c + 127` of the block's scales. -/
def chunk (s : FVec F S16x1024 .f32) (c : ℕ) (hc : c < 8) : FVec F S16x128 .f32 :=
  extractStridedSlice S16x128 ![0, 128 * c] s (slices_chunk c hc)

/-- A chunk rotated by `n` lanes. -/
def rolled (s : FVec F S16x1024 .f32) (c : ℕ) (hc : c < 8) (n : BitVec 32) : FVec F S16x128 .f32 :=
  dynamicRotate 1 n none (chunk s c hc) rotates_S16x128_d1

/-- The four rows of quad `j`. -/
def rows4 (x : FVec F S16x128 .f32) (j : ℕ) (hj : j < 4) : FVec F S4x128 .f32 :=
  extractStridedSlice S4x128 ![4 * j, 0] x (slices_rows j hj)

/-- One chunk's words for quad `j`: its four rows at the rotations `0, 127, 126, 125`. -/
def wordCol (s : FVec F S16x1024 .f32) (j : ℕ) (hj : j < 4) (c : ℕ) (hc : c < 8) : FVec F S16x128 .bf16 :=
  truncf .bf16 (concatenate S16x128 0
    [⟨S4x128, rows4 (chunk s c hc) j hj⟩, ⟨S4x128, rows4 (rolled s c hc 127#32) j hj⟩,
     ⟨S4x128, rows4 (rolled s c hc 126#32) j hj⟩, ⟨S4x128, rows4 (rolled s c hc 125#32) j hj⟩]
    concatenates_S4x128_S4x128_S4x128_S4x128_S16x128_d0) bitsLt_bf16_f32

/-- The words of quad `j`. -/
def words (s : FVec F S16x1024 .f32) (j : ℕ) (hj : j < 4) : FVec F S16x1024 .bf16 :=
  concatenate S16x1024 1
    [⟨S16x128, wordCol s j hj 0 (by decide)⟩, ⟨S16x128, wordCol s j hj 1 (by decide)⟩,
     ⟨S16x128, wordCol s j hj 2 (by decide)⟩, ⟨S16x128, wordCol s j hj 3 (by decide)⟩,
     ⟨S16x128, wordCol s j hj 4 (by decide)⟩, ⟨S16x128, wordCol s j hj 5 (by decide)⟩,
     ⟨S16x128, wordCol s j hj 6 (by decide)⟩, ⟨S16x128, wordCol s j hj 7 (by decide)⟩]
    concatenates_S16x128_S16x128_S16x128_S16x128_S16x128_S16x128_S16x128_S16x128_S16x1024_d1

theorem chunk_apply (s : FVec F S16x1024 .f32) (c : ℕ) (hc : c < 8) (r : Fin 16) (l : Fin 128) :
    chunk s c hc (ix2 r l) = s (ix2 r ⟨128 * c + l.val, by omega⟩) :=
  extractStridedSlice_apply _ s (slices_chunk c hc) (ix2 r l) _ fun a => by
    match a with
    | ⟨0, _⟩ => exact (Nat.zero_add _).symm
    | ⟨1, _⟩ => rfl

theorem rows4_apply (x : FVec F S16x128 .f32) (j : ℕ) (hj : j < 4) (r : Fin 4) (l : Fin 128) :
    rows4 x j hj (ix2 r l) = x (ix2 ⟨4 * j + r.val, by omega⟩ l) :=
  extractStridedSlice_apply _ x (slices_rows j hj) (ix2 r l) _ fun a => by
    match a with
    | ⟨0, _⟩ => rfl
    | ⟨1, _⟩ => exact (Nat.zero_add _).symm

theorem rolled_apply (s : FVec F S16x1024 .f32) (c : ℕ) (hc : c < 8) (n i : ℕ) (hi : i < 128)
    (hn : (BitVec.ofNat 32 n).toNat = 128 - i) (hi0 : 0 < i) (r : Fin 16) (l : Fin 128) (hl : l.val + i < 128) :
    rolled s c hc (BitVec.ofNat 32 n) (ix2 r l) = chunk s c hc (ix2 r ⟨l.val + i, hl⟩) :=
  dynamicRotate_apply 1 _ _ rotates_S16x128_d1 (ix2 r l) _ fun b => by
    match b with
    | ⟨0, _⟩ => rfl
    | ⟨1, _⟩ =>
      show l.val + i = (l.val + 128 - (BitVec.ofNat 32 n).toNat % 128) % 128
      rw [hn]; omega

theorem wordCol_apply (s : FVec F S16x1024 .f32) (j : ℕ) (hj : j < 4) (c : ℕ) (hc : c < 8)
    (i : Fin 4) (hh : Fin 4) (u : Fin 32) :
    wordCol s j hj c hc (ix2 ⟨4 * i.val + hh.val, by omega⟩ ⟨4 * u.val, by omega⟩)
      = FloatOps.truncf .bf16 bitsLt_bf16_f32 (s (ix2 ⟨4 * j + hh.val, by omega⟩ ⟨128 * c + 4 * u.val + i.val, by omega⟩)) := by
  unfold wordCol
  rw [truncf_apply]
  congr 1
  have hcat : ∀ (k : ℕ) (hk : k < 4) (x₁ : FVec F S4x128 .f32), [(⟨S4x128, rows4 (chunk s c hc) j hj⟩ : (s : Shape) × (s.Idx → F .f32)), ⟨S4x128, rows4 (rolled s c hc 127#32) j hj⟩,
     ⟨S4x128, rows4 (rolled s c hc 126#32) j hj⟩, ⟨S4x128, rows4 (rolled s c hc 125#32) j hj⟩][k] = ⟨S4x128, x₁⟩ →
       k = i.val →
     concatenate S16x128 0
      [⟨S4x128, rows4 (chunk s c hc) j hj⟩, ⟨S4x128, rows4 (rolled s c hc 127#32) j hj⟩,
       ⟨S4x128, rows4 (rolled s c hc 126#32) j hj⟩, ⟨S4x128, rows4 (rolled s c hc 125#32) j hj⟩]
      concatenates_S4x128_S4x128_S4x128_S4x128_S16x128_d0 (ix2 ⟨4 * i.val + hh.val, by omega⟩ ⟨4 * u.val, by omega⟩)
      = x₁ (ix2 hh ⟨4 * u.val, by omega⟩) := by
    intro k hk x₁ hx hki
    refine concatenate_apply_piece (t := S16x128) 0 _ _ _ k (by exact hk) S4x128 x₁ hx rfl (4 * k) ?_ _ ?_ ?_
    · interval_cases k <;> rfl
    · intro b hb
      match b with
      | ⟨0, _⟩ => exact absurd rfl hb
      | ⟨1, _⟩ => rfl
    · subst hki; rfl
  obtain ⟨i, hi⟩ := i
  have hu := u.isLt
  interval_cases i
  · rw [hcat 0 (by decide) _ rfl rfl, rows4_apply, chunk_apply]
    rfl
  · rw [hcat 1 (by decide) _ rfl rfl, rows4_apply, rolled_apply s c hc 127 1 (by decide) rfl (by decide) _ _ (by show 4 * u.val + 1 < 128; omega), chunk_apply]
    rfl
  · rw [hcat 2 (by decide) _ rfl rfl, rows4_apply, rolled_apply s c hc 126 2 (by decide) rfl (by decide) _ _ (by show 4 * u.val + 2 < 128; omega), chunk_apply]
    rfl
  · rw [hcat 3 (by decide) _ rfl rfl, rows4_apply, rolled_apply s c hc 125 3 (by decide) rfl (by decide) _ _ (by show 4 * u.val + 3 < 128; omega), chunk_apply]
    rfl

theorem words_chunk (s : FVec F S16x1024 .f32) (j : ℕ) (hj : j < 4) (c : ℕ) (hc : c < 8) (r : Fin 16) (l : Fin 128) :
    words s j hj (ix2 r ⟨128 * c + l.val, by omega⟩) = wordCol s j hj c hc (ix2 r l) := by
  unfold words
  refine concatenate_apply_piece (t := S16x1024) 1
    [⟨S16x128, wordCol s j hj 0 (by decide)⟩, ⟨S16x128, wordCol s j hj 1 (by decide)⟩,
     ⟨S16x128, wordCol s j hj 2 (by decide)⟩, ⟨S16x128, wordCol s j hj 3 (by decide)⟩,
     ⟨S16x128, wordCol s j hj 4 (by decide)⟩, ⟨S16x128, wordCol s j hj 5 (by decide)⟩,
     ⟨S16x128, wordCol s j hj 6 (by decide)⟩, ⟨S16x128, wordCol s j hj 7 (by decide)⟩]
    _ _ c hc S16x128 (wordCol s j hj c hc) ?_ rfl (128 * c) ?_ _ ?_ ?_
  · interval_cases c <;> rfl
  · interval_cases c <;> rfl
  · intro b hb
    match b with
    | ⟨0, _⟩ => rfl
    | ⟨1, _⟩ => exact absurd rfl hb
  · rfl

/-- Lane `4u` of row `4i + hh` of quad `j`'s words is token `4u + i`'s scale of head `4j + hh`. -/
theorem words_apply (s : FVec F S16x1024 .f32) (j : ℕ) (hj : j < 4) (i : Fin 4) (hh : Fin 4) (u : Fin 256) :
    words s j hj (ix2 ⟨4 * i.val + hh.val, by omega⟩ ⟨4 * u.val, by omega⟩)
      = FloatOps.truncf .bf16 bitsLt_bf16_f32 (s (ix2 ⟨4 * j + hh.val, by omega⟩ ⟨4 * u.val + i.val, by omega⟩)) := by
  have hu := u.isLt
  have e : (⟨4 * u.val, by omega⟩ : Fin 1024) = ⟨128 * (u.val / 32) + (⟨4 * (u.val % 32), by omega⟩ : Fin 128).val, by dsimp only; omega⟩ :=
    Fin.ext (by dsimp only; omega)
  rw [e, words_chunk s j hj (u.val / 32) (by omega)]
  rw [show (⟨4 * (u.val % 32), by omega⟩ : Fin 128) = ⟨4 * (⟨u.val % 32, by omega⟩ : Fin 32).val, by dsimp only; omega⟩ from rfl, wordCol_apply]
  congr 3
  exact Fin.ext (by dsimp only; omega)

/-! ## The dequantised quads -/

theorem slices_quad (j : ℕ) (hj : j < 4) : S1024x4x128.Slices ![0, j, 0] S1024x1x128 :=
  ⟨rfl, fun a => by
    match a with
    | ⟨0, _⟩ => exact Nat.le_refl 1024
    | ⟨1, _⟩ => show j + 1 ≤ 4; omega
    | ⟨2, _⟩ => exact Nat.le_refl 128⟩

/-- The block's code rows as words of four rows. -/
def codes32 (c : Vec F S1x16384x128 .i8) : IVec S4096x128 32 :=
  bitcast S4096x128 32 (shapeCast S16384x128 c shapeCasts_S1x16384x128_S16384x128) bitcasts_S16384x128_w8_S4096x128_w32

/-- Quad `j`'s code rows. -/
def codesOf (x : IVec S4096x128 32) (j : ℕ) (hj : j < 4) : IVec S4096x128 8 :=
  bitcast S4096x128 8 (shapeCast S1024x128 (extractStridedSlice S1024x1x128 ![0, j, 0]
    (shapeCast S1024x4x128 x shapeCasts_S4096x128_S1024x4x128) (slices_quad j hj)) shapeCasts_S1024x1x128_S1024x128)
    bitcasts_S1024x128_w32_S4096x128_w8

/-- The words expanded over the code rows. -/
def expand (w : FVec F S16x1024 .bf16) : FVec F S4096x128 .bf16 :=
  broadcastTo S4096x128 (shapeCast S4096x1 (shapeCast S4096x1 (transpose S256x16 [1, 0]
    (shapeCast S16x256 (extractStridedSlice S16x256x1 ![0, 0, 0] (shapeCast S16x256x4 w shapeCasts_S16x1024_S16x256x4)
      slices_S16x256x4_o0_0_0_S16x256x1) shapeCasts_S16x256x1_S16x256) transposes_S16x256_p1_0_S256x16)
    shapeCasts_S256x16_S4096x1) shapeCasts_S4096x1_S4096x1) broadcasts_S4096x1_S4096x128

/-- Quad `j` dequantised. -/
def deq (x : IVec S4096x128 32) (w : FVec F S16x1024 .bf16) (j : ℕ) (hj : j < 4) : FVec F S4096x128 .bf16 :=
  mulf (sitofp .bf16 (codesOf x j hj)) (expand w)

theorem codes32_getLsbD (c : Vec F S1x16384x128 .i8) (a : Fin 4096) (d : Fin 128) (q : ℕ) (hq : q < 32)
    (p : Fin 16384) (hp : p.val = 4 * a.val + q / 8) :
    (codes32 c (ix2 a d)).getLsbD q = (c (ix3 0 p d) : BitVec 8).getLsbD (q % 8) := by
  unfold codes32
  refine (bitcast_8_32_getLsbD_ix2 _ _ a d q hq p hp).trans (congrArg (fun b : BitVec 8 => b.getLsbD (q % 8)) ?_)
  exact shapeCast_apply _ _ (ix2 p d) (ix3 0 p d) (by
    rw [Shape.rowMajor_val_two, Shape.rowMajor_val_three]
    show (0 * 16384 + p.val) * 128 + d.val = p.val * 128 + d.val
    omega)

theorem codesOf_apply (c : Vec F S1x16384x128 .i8) (j : ℕ) (hj : j < 4) (T : Fin 1024) (hh : Fin 4) (d : Fin 128) :
    codesOf (codes32 c) j hj (ix2 ⟨4 * T.val + hh.val, by omega⟩ d)
      = c (ix3 0 ⟨16 * T.val + (4 * j + hh.val), by omega⟩ d) := by
  apply BitVec.eq_of_getLsbD_eq
  intro q hq
  unfold codesOf
  have hq8 : q < 8 := hq
  have hT := T.isLt
  have hhh := hh.isLt
  rw [bitcast_getLsbD _ bitcasts_S1024x128_w32_S4096x128_w8 _ q hq8 (by decide)]
  have hrow : S4096x128.row (ix2 ⟨4 * T.val + hh.val, by omega⟩ d) = 4 * T.val + hh.val := rfl
  have e1 : (S4096x128.row (ix2 ⟨4 * T.val + hh.val, by omega⟩ d) * 8 + q) / 32 = T.val := by rw [hrow]; omega
  have e2 : (S4096x128.row (ix2 ⟨4 * T.val + hh.val, by omega⟩ d) * 8 + q) % 32 = 8 * hh.val + q := by rw [hrow]; omega
  rw [e2]
  have hlt : 4 * T.val + hh.val < 4096 := by omega
  have e3 : ∀ hp, bitcasts_S1024x128_w32_S4096x128_w8.srcIdx (ix2 ⟨4 * T.val + hh.val, hlt⟩ d)
      ((S4096x128.row (ix2 ⟨4 * T.val + hh.val, hlt⟩ d) * 8 + q) / 32) hp = ix2 T d := by
    intro hp
    funext b
    match b with
    | ⟨0, _⟩ => exact Fin.ext ((Shape.Bitcasts.srcIdx_row _ _ _ _ ⟨0, Nat.zero_lt_two⟩ rfl).trans e1)
    | ⟨1, _⟩ => exact Fin.ext (Shape.Bitcasts.srcIdx_other _ _ _ _ ⟨1, Nat.one_lt_two⟩ (by show ¬ 1 + 2 = 2; omega))
  rw [e3]
  have e4 : shapeCast S1024x128 (extractStridedSlice S1024x1x128 ![0, j, 0]
    (shapeCast S1024x4x128 (codes32 c) shapeCasts_S4096x128_S1024x4x128) (slices_quad j hj)) shapeCasts_S1024x1x128_S1024x128 (ix2 T d)
      = codes32 c (ix2 ⟨4 * T.val + j, by omega⟩ d) := by
    rw [shapeCast_apply _ _ (ix2 T d) (ix3 T 0 d) (by
      rw [Shape.rowMajor_val_two, Shape.rowMajor_val_three]
      show (T.val * 1 + 0) * 128 + d.val = T.val * 128 + d.val
      omega)]
    rw [extractStridedSlice_apply _ _ (slices_quad j hj) (ix3 T 0 d) (ix3 T ⟨j, hj⟩ d) (fun a => by
      match a with
      | ⟨0, _⟩ => exact (Nat.zero_add _).symm
      | ⟨1, _⟩ => rfl
      | ⟨2, _⟩ => exact (Nat.zero_add _).symm)]
    exact shapeCast_apply _ _ (ix3 T ⟨j, hj⟩ d) _ (by
      rw [Shape.rowMajor_val_two, Shape.rowMajor_val_three]
      show (4 * T.val + j) * 128 + d.val = (T.val * 4 + j) * 128 + d.val
      omega)
  rw [e4, codes32_getLsbD c _ d (8 * hh.val + q) (by omega) ⟨16 * T.val + (4 * j + hh.val), by omega⟩ (by dsimp only; omega)]
  congr 1
  omega

theorem expand_apply (w : FVec F S16x1024 .bf16) (T : Fin 1024) (hh : Fin 4) (d : Fin 128) :
    expand w (ix2 ⟨4 * T.val + hh.val, by omega⟩ d)
      = w (ix2 ⟨4 * (T.val % 4) + hh.val, by omega⟩ ⟨4 * (T.val / 4), by omega⟩) := by
  unfold expand
  have hT := T.isLt
  have hhh := hh.isLt
  rw [broadcastTo_apply _ _ _ (ix2 ⟨4 * T.val + hh.val, by omega⟩ 0) (fun a => by
    match a with
    | ⟨0, _⟩ => rfl
    | ⟨1, _⟩ => rfl)]
  rw [shapeCast_self]
  rw [shapeCast_apply _ _ _ (ix2 ⟨T.val / 4, by omega⟩ ⟨4 * (T.val % 4) + hh.val, by omega⟩) (by
    rw [Shape.rowMajor_val_two, Shape.rowMajor_val_two]
    show T.val / 4 * 16 + (4 * (T.val % 4) + hh.val) = (4 * T.val + hh.val) * 1 + 0
    omega)]
  rw [transpose_apply [1, 0] _ _ _ (ix2 ⟨4 * (T.val % 4) + hh.val, by omega⟩ ⟨T.val / 4, by omega⟩) (fun b => by
    match b with
    | ⟨0, _⟩ => rfl
    | ⟨1, _⟩ => rfl)]
  rw [shapeCast_apply _ _ _ (ix3 ⟨4 * (T.val % 4) + hh.val, by omega⟩ ⟨T.val / 4, by omega⟩ 0) (by
    rw [Shape.rowMajor_val_two, Shape.rowMajor_val_three]
    show ((4 * (T.val % 4) + hh.val) * 256 + T.val / 4) * 1 + 0 = (4 * (T.val % 4) + hh.val) * 256 + T.val / 4
    omega)]
  rw [extractStridedSlice_apply _ _ _ _ (ix3 ⟨4 * (T.val % 4) + hh.val, by omega⟩ ⟨T.val / 4, by omega⟩ 0) (fun a => by
    match a with
    | ⟨0, _⟩ => exact (Nat.zero_add _).symm
    | ⟨1, _⟩ => exact (Nat.zero_add _).symm
    | ⟨2, _⟩ => exact (Nat.zero_add _).symm)]
  exact shapeCast_apply _ _ _ _ (by
    rw [Shape.rowMajor_val_two, Shape.rowMajor_val_three]
    show (4 * (T.val % 4) + hh.val) * 1024 + 4 * (T.val / 4) = ((4 * (T.val % 4) + hh.val) * 256 + T.val / 4) * 4 + 0
    omega)

/-- Row `4T + hh` of the dequantised quad `j`. -/
theorem deq_apply (c : Vec F S1x16384x128 .i8) (s : FVec F S16x1024 .f32) (j : ℕ) (hj : j < 4)
    (T : Fin 1024) (hh : Fin 4) (d : Fin 128) :
    deq (codes32 c) (words s j hj) j hj (ix2 ⟨4 * T.val + hh.val, by omega⟩ d)
      = FloatOps.mulf (FloatOps.sitofp .bf16 (c (ix3 0 ⟨16 * T.val + (4 * j + hh.val), by omega⟩ d) : BitVec 8))
          (FloatOps.truncf .bf16 bitsLt_bf16_f32 (s (ix2 ⟨4 * j + hh.val, by omega⟩ T))) := by
  unfold deq
  have hT := T.isLt
  rw [mulf_apply, expand_apply]
  rw [show (⟨4 * (T.val % 4) + hh.val, by omega⟩ : Fin 16) = ⟨4 * (⟨T.val % 4, by omega⟩ : Fin 4).val + hh.val, by dsimp only; omega⟩ from rfl,
    show (⟨4 * (T.val / 4), by omega⟩ : Fin 1024) = ⟨4 * (⟨T.val / 4, by omega⟩ : Fin 256).val, by dsimp only; omega⟩ from rfl,
    words_apply]
  congr 1
  · exact congrArg _ (codesOf_apply c j hj T hh d)
  · congr 3
    exact Fin.ext (by dsimp only; omega)

end Cert.KernelIdeal.Hand
-- ==== Proof.Softmax.lean ====
/-
  The running softmax over the extended reals: a maximum, a sum of exponentials and a weighted sum
  of exponentials taken block by block, rescaled whenever the maximum moves, are the maximum and
  the two sums taken at once. No program appears here.
-/
module

public import Idealize.ShloMosaic.Lib.Pointwise

@[expose] public section

noncomputable section

namespace Cert.Softmax

open Idealize.ShloMosaic

/-- The largest of the first `n` scores (`-∞` when there are none). -/
def maxTo (s : ℕ → EReal) (n : ℕ) : EReal := (Finset.range n).sup s

/-- The sum of the exponentials of the first `n` scores below their maximum. -/
def denTo (s : ℕ → EReal) (n : ℕ) : EReal := ∑ k ∈ Finset.range n, Ideal.exp (s k - maxTo s n)

/-- The same sum with weights. -/
def numTo (s w : ℕ → EReal) (n : ℕ) : EReal :=
  ∑ k ∈ Finset.range n, Ideal.exp (s k - maxTo s n) * w k

theorem exp_nonneg (x : EReal) : 0 ≤ Ideal.exp x := by
  induction x with
  | bot => exact le_refl _
  | top => exact le_top
  | coe r => exact EReal.coe_nonneg.mpr (Real.exp_pos r).le

theorem exp_bot : Ideal.exp ⊥ = 0 := rfl

theorem exp_sub_ne_top {b c : EReal} (h : b ≤ c) : Ideal.exp (b - c) ≠ ⊤ := by
  induction b with
  | bot => induction c <;> simp [sub_eq_add_neg, exp_bot]
  | top =>
    obtain rfl : c = ⊤ := top_le_iff.mp h
    simp [sub_eq_add_neg, exp_bot]
  | coe b =>
    induction c with
    | bot => simp at h
    | top => simp [sub_eq_add_neg, exp_bot]
    | coe c => rw [← EReal.coe_sub]; exact EReal.coe_ne_top _

/-- The factor a moved maximum costs: through a middle point the exponential multiplies. -/
theorem exp_sub_mul {a b c : EReal} (hab : a ≤ b) (hbc : b ≤ c) :
    Ideal.exp (a - b) * Ideal.exp (b - c) = Ideal.exp (a - c) := by
  induction a with
  | bot => simp [sub_eq_add_neg, exp_bot]
  | top =>
    obtain rfl : b = ⊤ := top_le_iff.mp hab
    obtain rfl : c = ⊤ := top_le_iff.mp hbc
    simp [sub_eq_add_neg, exp_bot]
  | coe a =>
    induction b with
    | bot => simp at hab
    | top =>
      obtain rfl : c = ⊤ := top_le_iff.mp hbc
      simp [sub_eq_add_neg, exp_bot]
    | coe b =>
      induction c with
      | bot => simp at hbc
      | top => simp [sub_eq_add_neg, exp_bot]
      | coe c =>
        rw [← EReal.coe_sub, ← EReal.coe_sub, ← EReal.coe_sub]
        change (Real.exp (a - b) : EReal) * (Real.exp (b - c) : EReal) = (Real.exp (a - c) : EReal)
        rw [← EReal.coe_mul, ← Real.exp_add]; congr 2; ring

theorem sum_mul_of_nonneg {ι : Type*} (S : Finset ι) (f : ι → EReal) {a : EReal} (h0 : 0 ≤ a)
    (h1 : a ≠ ⊤) : (∑ k ∈ S, f k) * a = ∑ k ∈ S, f k * a := by
  classical
  induction S using Finset.induction_on with
  | empty => simp
  | insert x S hx ih =>
    rw [Finset.sum_insert hx, Finset.sum_insert hx, EReal.right_distrib_of_nonneg_of_ne_top h0 h1, ih]

/-- Rescaling a weighted sum of exponentials from the maximum `M` to a later one `M'`. -/
theorem rescale {ι : Type*} (S : Finset ι) (s w : ι → EReal) {M M' : EReal}
    (hs : ∀ k ∈ S, s k ≤ M) (hM : M ≤ M') :
    (∑ k ∈ S, Ideal.exp (s k - M) * w k) * Ideal.exp (M - M')
      = ∑ k ∈ S, Ideal.exp (s k - M') * w k := by
  rw [sum_mul_of_nonneg S _ (exp_nonneg _) (exp_sub_ne_top hM)]
  refine Finset.sum_congr rfl fun k hk => ?_
  rw [mul_right_comm, exp_sub_mul (hs k hk) hM]

theorem rescale_one {ι : Type*} (S : Finset ι) (s : ι → EReal) {M M' : EReal}
    (hs : ∀ k ∈ S, s k ≤ M) (hM : M ≤ M') :
    (∑ k ∈ S, Ideal.exp (s k - M)) * Ideal.exp (M - M') = ∑ k ∈ S, Ideal.exp (s k - M') := by
  simpa using rescale S s (fun _ => 1) hs hM

theorem le_maxTo (s : ℕ → EReal) {n k : ℕ} (h : k ∈ Finset.range n) : s k ≤ maxTo s n :=
  Finset.le_sup h

theorem maxTo_zero (s : ℕ → EReal) : maxTo s 0 = ⊥ := rfl
theorem denTo_zero (s : ℕ → EReal) : denTo s 0 = 0 := rfl
theorem numTo_zero (s w : ℕ → EReal) : numTo s w 0 = 0 := rfl

theorem maxTo_add (s : ℕ → EReal) (n b : ℕ) :
    maxTo s (n + b) = max (maxTo s n) (Finset.univ.sup fun i : Fin b => s (n + i.val)) := by
  refine le_antisymm (Finset.sup_le fun k hk => ?_) (max_le ?_ ?_)
  · rw [Finset.mem_range] at hk
    by_cases h : k < n
    · exact le_max_of_le_left (Finset.le_sup (Finset.mem_range.mpr h))
    · refine le_max_of_le_right ?_
      have := Finset.le_sup (f := fun i : Fin b => s (n + i.val))
        (Finset.mem_univ (⟨k - n, by omega⟩ : Fin b))
      simpa [Nat.add_sub_cancel' (Nat.le_of_not_lt h)] using this
  · exact Finset.sup_mono (Finset.range_mono (Nat.le_add_right n b))
  · exact Finset.sup_le fun i _ => Finset.le_sup (f := s) (Finset.mem_range.mpr (by omega))

theorem maxTo_le_add (s : ℕ → EReal) (n b : ℕ) : maxTo s n ≤ maxTo s (n + b) :=
  Finset.sup_mono (Finset.range_mono (Nat.le_add_right n b))

theorem sum_range_add_fin {f : ℕ → EReal} (n b : ℕ) :
    ∑ k ∈ Finset.range (n + b), f k
      = ∑ k ∈ Finset.range n, f k + ∑ i : Fin b, f (n + i.val) := by
  rw [Finset.sum_range_add, Finset.sum_range fun x => f (n + x)]

/-- One block of the running sum of exponentials. -/
theorem denTo_add (s : ℕ → EReal) (n b : ℕ) :
    denTo s n * Ideal.exp (maxTo s n - maxTo s (n + b))
        + ∑ i : Fin b, Ideal.exp (s (n + i.val) - maxTo s (n + b))
      = denTo s (n + b) := by
  unfold denTo
  rw [rescale_one _ s (fun k hk => le_maxTo s hk) (maxTo_le_add s n b), sum_range_add_fin n b]

/-- One block of the running weighted sum. -/
theorem numTo_add (s w : ℕ → EReal) (n b : ℕ) :
    numTo s w n * Ideal.exp (maxTo s n - maxTo s (n + b))
        + ∑ i : Fin b, Ideal.exp (s (n + i.val) - maxTo s (n + b)) * w (n + i.val)
      = numTo s w (n + b) := by
  unfold numTo
  rw [rescale _ s w (fun k hk => le_maxTo s hk) (maxTo_le_add s n b), sum_range_add_fin n b]

/-- The last step: a running sum over the past rescaled to the maximum that takes in more scores is
the sum over the past below that maximum. -/
theorem numTo_final (s w : ℕ → EReal) (n : ℕ) (x : EReal) :
    numTo s w n * Ideal.exp (maxTo s n - max (maxTo s n) x)
      = ∑ k : Fin n, Ideal.exp (s k.val - max (maxTo s n) x) * w k.val := by
  unfold numTo
  rw [rescale _ s w (fun k hk => le_maxTo s hk) (le_max_left _ _), Finset.sum_range]

theorem denTo_final (s : ℕ → EReal) (n : ℕ) (x : EReal) :
    denTo s n * Ideal.exp (maxTo s n - max (maxTo s n) x)
      = ∑ k : Fin n, Ideal.exp (s k.val - max (maxTo s n) x) := by
  unfold denTo
  rw [rescale_one _ s (fun k hk => le_maxTo s hk) (le_max_left _ _), Finset.sum_range]

theorem maxTo_fin (s : ℕ → EReal) (n : ℕ) :
    maxTo s n = Finset.univ.sup fun k : Fin n => s k.val := by
  have := maxTo_add s 0 n
  simpa [maxTo_zero] using this

end Cert.Softmax
-- ==== Proof.Mask.lean ====
/-
  Scores laid out with four columns per token, all but one of the four masked to `-∞`: a maximum
  or a sum of exponentials over the columns is one over the tokens.
-/
module

public import proofs.«01_k».proof.Proof.Softmax

@[expose] public section

noncomputable section

namespace Cert.Softmax

open Idealize.ShloMosaic

theorem sum_cols {N n : ℕ} (hN : N = n * 4) (f : Fin N → EReal) :
    ∑ C, f C = ∑ T : Fin n, ∑ h : Fin 4, f ⟨4 * T.val + h.val, by omega⟩ := by
  subst hN
  rw [← finProdFinEquiv.sum_comp, Fintype.sum_prod_type]
  refine Finset.sum_congr rfl fun T _ => Finset.sum_congr rfl fun h _ => congrArg f (Fin.ext ?_)
  show h.val + 4 * T.val = 4 * T.val + h.val
  omega

theorem bot_sub (M : EReal) : (⊥ : EReal) - M = ⊥ := by
  rw [sub_eq_add_neg, EReal.bot_add]

/-- The maximum over masked columns is the maximum over tokens. -/
theorem masked_fold {N n : ℕ} (hN : N = n * 4) (f : Fin N → EReal) (S : Fin n → EReal) (hh : Fin 4)
    (hf : ∀ (T : Fin n) (h : Fin 4), f ⟨4 * T.val + h.val, by omega⟩ = if hh = h then S T else ⊥) :
    (Finset.univ : Finset (Fin N)).fold max ⊥ f = Finset.univ.sup S := by
  show Finset.univ.sup f = _
  refine le_antisymm (Finset.sup_le fun C _ => ?_) (Finset.sup_le fun T _ => ?_)
  · have hC := C.isLt
    have e : C = ⟨4 * (⟨C.val / 4, by omega⟩ : Fin n).val + (⟨C.val % 4, by omega⟩ : Fin 4).val, by dsimp only; omega⟩ :=
      Fin.ext (by dsimp only; omega)
    rw [e, hf]
    split
    · exact Finset.le_sup (f := S) (Finset.mem_univ _)
    · exact bot_le
  · have := hf T hh
    rw [if_pos rfl] at this
    rw [← this]
    exact Finset.le_sup (f := f) (Finset.mem_univ _)

/-- The weighted sum of exponentials over masked columns is the one over tokens. -/
theorem masked_sum {N n : ℕ} (hN : N = n * 4) (f : Fin N → EReal) (S : Fin n → EReal) (hh : Fin 4)
    (hf : ∀ (T : Fin n) (h : Fin 4), f ⟨4 * T.val + h.val, by omega⟩ = if hh = h then S T else ⊥)
    (M : EReal) (w : Fin N → EReal) :
    ∑ C, Ideal.exp (f C - M) * w C
      = ∑ T : Fin n, Ideal.exp (S T - M) * w ⟨4 * T.val + hh.val, by omega⟩ := by
  rw [sum_cols hN]
  refine Finset.sum_congr rfl fun T _ => ?_
  rw [Finset.sum_eq_single hh (fun h _ hne => ?_) (fun h => absurd (Finset.mem_univ _) h)]
  · rw [hf, if_pos rfl]
  · rw [hf, if_neg (Ne.symm hne), bot_sub, exp_bot, zero_mul]

theorem masked_sum_one {N n : ℕ} (hN : N = n * 4) (f : Fin N → EReal) (S : Fin n → EReal) (hh : Fin 4)
    (hf : ∀ (T : Fin n) (h : Fin 4), f ⟨4 * T.val + h.val, by omega⟩ = if hh = h then S T else ⊥)
    (M : EReal) :
    ∑ C, Ideal.exp (f C - M) = ∑ T : Fin n, Ideal.exp (S T - M) := by
  simpa using masked_sum hN f S hh hf M (fun _ => 1)

/-- One unmasked column. -/
theorem single_fold {N : ℕ} (f : Fin N → EReal) (x : EReal) (h : Fin N) (hf : ∀ k, f k = if h = k then x else ⊥) :
    (Finset.univ : Finset (Fin N)).fold max ⊥ f = x := by
  show Finset.univ.sup f = _
  refine le_antisymm (Finset.sup_le fun k _ => ?_) ?_
  · rw [hf]; split
    · exact le_refl _
    · exact bot_le
  · have := hf h
    rw [if_pos rfl] at this
    exact this ▸ Finset.le_sup (f := f) (Finset.mem_univ h)

theorem single_sum {N : ℕ} (f : Fin N → EReal) (x : EReal) (h : Fin N) (hf : ∀ k, f k = if h = k then x else ⊥)
    (M : EReal) (w : Fin N → EReal) :
    ∑ k, Ideal.exp (f k - M) * w k = Ideal.exp (x - M) * w h := by
  rw [Finset.sum_eq_single h (fun k _ hne => ?_) (fun h => absurd (Finset.mem_univ _) h)]
  · rw [hf, if_pos rfl]
  · rw [hf, if_neg (Ne.symm hne), bot_sub, exp_bot, zero_mul]

theorem single_sum_one {N : ℕ} (f : Fin N → EReal) (x : EReal) (h : Fin N) (hf : ∀ k, f k = if h = k then x else ⊥)
    (M : EReal) : ∑ k, Ideal.exp (f k - M) = Ideal.exp (x - M) := by
  simpa using single_sum f x h hf M (fun _ => 1)

/-- A product of rows of 256 whose left row is zero outside one half. -/
theorem half_sum_left (a b : Fin 256 → EReal) (q : Fin 128 → EReal)
    (h0 : ∀ d : Fin 128, a ⟨d.val, by omega⟩ = q d) (h1 : ∀ d : Fin 128, a ⟨128 + d.val, by omega⟩ = 0) :
    ∑ k, a k * b k = ∑ d, q d * b ⟨d.val, by omega⟩ := by
  refine (Fin.sum_univ_add (a := 128) (b := 128) (fun k => a k * b k)).trans ?_
  have e : ∑ i : Fin 128, a (Fin.natAdd 128 i) * b (Fin.natAdd 128 i) = 0 :=
    Finset.sum_eq_zero fun d _ => by
      rw [show a (Fin.natAdd 128 d) = 0 from h1 d, zero_mul]
  rw [e, add_zero]
  exact Finset.sum_congr rfl fun d _ => congrArg₂ _ (h0 d) rfl

theorem half_sum_right (a b : Fin 256 → EReal) (q : Fin 128 → EReal)
    (h0 : ∀ d : Fin 128, a ⟨d.val, by omega⟩ = 0) (h1 : ∀ d : Fin 128, a ⟨128 + d.val, by omega⟩ = q d) :
    ∑ k, a k * b k = ∑ d, q d * b ⟨128 + d.val, by omega⟩ := by
  refine (Fin.sum_univ_add (a := 128) (b := 128) (fun k => a k * b k)).trans ?_
  have e : ∑ i : Fin 128, a (Fin.castAdd 128 i) * b (Fin.castAdd 128 i) = 0 :=
    Finset.sum_eq_zero fun d _ => by
      rw [show a (Fin.castAdd 128 d) = 0 from h0 d, zero_mul]
  rw [e, zero_add]
  exact Finset.sum_congr rfl fun d _ => congrArg₂ _ (h1 d) rfl

end Cert.Softmax
-- ==== Proof.Tile.lean ====
/-
  One pair of quads at one grid point: the masked scores, and what the tile's running maximum,
  sum and weighted sum become, read at an index over the extended reals.
-/
module

public import proofs.«01_k».proof.Proof.Words
public import proofs.«01_k».proof.Proof.Mask
public import Idealize.ShloMosaic.Lib.Routing.Words

@[expose] public section

set_option maxRecDepth 16384

noncomputable section

namespace Cert.KernelIdeal.Hand

open Cert.KernelIdeal Cert.KernelIdeal.Gen Cert.Softmax Idealize.ShloMosaic

variable {F : FTy → Type} [FloatOps F]

theorem slices_qa (p : ℕ) (hp : p < 2) : S64x128.Slices ![32 * p, 0] S16x128 :=
  ⟨rfl, fun a => by
    match a with
    | ⟨0, _⟩ => show 32 * p + 16 ≤ 64; omega
    | ⟨1, _⟩ => exact Nat.le_refl 128⟩

theorem slices_qb (p : ℕ) (hp : p < 2) : S64x128.Slices ![32 * p + 16, 0] S16x128 :=
  ⟨rfl, fun a => by
    match a with
    | ⟨0, _⟩ => show 32 * p + 16 + 16 ≤ 64; omega
    | ⟨1, _⟩ => exact Nat.le_refl 128⟩

/-- Zero rows. -/
def zeroQ : FVec F S16x128 .bf16 := broadcast S16x128 (Scalar.ofBits .bf16 0x0000#16)

/-- Pair `p`'s queries, quad `2p` in the left columns and quad `2p + 1` in the right ones. -/
def qcat (q : FVec F S64x128 .bf16) (p : ℕ) (hp : p < 2) : FVec F S32x256 .bf16 :=
  concatenate S32x256 0
    [⟨S16x256, concatenate S16x256 1 [⟨S16x128, extractStridedSlice S16x128 ![32 * p, 0] q (slices_qa p hp)⟩,
        ⟨S16x128, zeroQ⟩] concatenates_S16x128_S16x128_S16x256_d1⟩,
     ⟨S16x256, concatenate S16x256 1 [⟨S16x128, zeroQ⟩,
        ⟨S16x128, extractStridedSlice S16x128 ![32 * p + 16, 0] q (slices_qb p hp)⟩] concatenates_S16x128_S16x128_S16x256_d1⟩]
    concatenates_S16x256_S16x256_S32x256_d0

/-- Pair `p`'s dequantised block, its two quads side by side. -/
def kcat (c : Vec F S1x16384x128 .i8) (s : FVec F S16x1024 .f32) (p : ℕ) (hp : p < 2) : FVec F S4096x256 .bf16 :=
  concatenate S4096x256 1
    [⟨S4096x128, deq (codes32 c) (words s (2 * p) (by omega)) (2 * p) (by omega)⟩,
     ⟨S4096x128, deq (codes32 c) (words s (2 * p + 1) (by omega)) (2 * p + 1) (by omega)⟩]
    concatenates_S4096x128_S4096x128_S4096x256_d1

/-- The columns of a row's own head. -/
def ownMask : IVec S32x4096 1 :=
  k0_pay151 (k0_pay149 (iota .tc S32x4096 32 [0] iota_S32x4096_d0_w32)) (iota .tc S32x4096 32 [1] iota_S32x4096_d1_w32)
    (4#32) k0_pay150

/-- Pair `p`'s masked scores. -/
def scores (q : FVec F S64x128 .bf16) (c : Vec F S1x16384x128 .i8) (s : FVec F S16x1024 .f32) (p : ℕ) (hp : p < 2) :
    FVec F S32x4096 .f32 :=
  select ownMask
    (mulf (matmul dot_S32x256_S4096x256_S32x4096_1_1_0_0_n_n none (qcat q p hp) (kcat c s p hp)
        (constant S32x4096 .f32 0x00000000#32))
      (broadcast S32x4096 (Scalar.ofBits .f32 0x3DB504F3#32)))
    (broadcast S32x4096 (Scalar.ofBits .f32 0xFF800000#32))

/-- The tile's weighted sum. -/
def tileAcc (sc : FVec F S32x4096 .f32) (mo : FVec F S32x1 .f32) (v : FVec F S4096x256 .bf16) (ao : FVec F S32x256 .f32) :
    FVec F S32x256 .f32 :=
  k0_pay161 (k0_pay155 sc mo) v (k0_pay160 sc mo) (constant S32x256 .f32 0x00000000#32) ao

/-! ## Read at an index, over the extended reals -/

/-- The scale factor of the scores. -/
def smScale : EReal := Scalar.ofBits (F := Ideal) .f32 0x3DB504F3#32

theorem cols16_left {α : Type} (x y : S16x128.Idx → α) (r : Fin 16) (k : Fin 256) (h : k.val < 128) :
    concatenate S16x256 1 [⟨S16x128, x⟩, ⟨S16x128, y⟩] concatenates_S16x128_S16x128_S16x256_d1 (ix2 r k) = x (ix2 r ⟨k.val, h⟩) :=
  concatenate_apply_piece (t := S16x256) 1 [⟨S16x128, x⟩, ⟨S16x128, y⟩] _ (ix2 r k) 0 Nat.zero_lt_two S16x128 x rfl rfl 0 rfl
    (ix2 r ⟨k.val, h⟩) (fun a ha => by match a with | ⟨0, _⟩ => rfl | ⟨1, _⟩ => exact absurd rfl ha) (Nat.zero_add _)

theorem cols16_right {α : Type} (x y : S16x128.Idx → α) (r : Fin 16) (k : Fin 256) (h : ¬ k.val < 128) :
    concatenate S16x256 1 [⟨S16x128, x⟩, ⟨S16x128, y⟩] concatenates_S16x128_S16x128_S16x256_d1 (ix2 r k)
      = y (ix2 r ⟨k.val - 128, by omega⟩) :=
  have hk : k.val - 128 < 128 := by omega
  concatenate_apply_piece (t := S16x256) 1 [⟨S16x128, x⟩, ⟨S16x128, y⟩] _ (ix2 r k) 1 Nat.one_lt_two S16x128 y rfl rfl 128 rfl
    (ix2 r ⟨k.val - 128, hk⟩) (fun a ha => by match a with | ⟨0, _⟩ => rfl | ⟨1, _⟩ => exact absurd rfl ha)
    (show 128 + (k.val - 128) = k.val by omega)

theorem rows32_upper {α : Type} (x y : S16x256.Idx → α) (r : Fin 16) (k : Fin 256) :
    concatenate S32x256 0 [⟨S16x256, x⟩, ⟨S16x256, y⟩] concatenates_S16x256_S16x256_S32x256_d0 (ix2 ⟨r.val, by omega⟩ k)
      = x (ix2 r k) :=
  concatenate_apply_piece (t := S32x256) 0 [⟨S16x256, x⟩, ⟨S16x256, y⟩] _ _ 0 Nat.zero_lt_two S16x256 x rfl rfl 0 rfl
    (ix2 r k) (fun a ha => by match a with | ⟨0, _⟩ => exact absurd rfl ha | ⟨1, _⟩ => rfl) (Nat.zero_add _)

theorem rows32_lower {α : Type} (x y : S16x256.Idx → α) (r : Fin 16) (k : Fin 256) :
    concatenate S32x256 0 [⟨S16x256, x⟩, ⟨S16x256, y⟩] concatenates_S16x256_S16x256_S32x256_d0 (ix2 ⟨16 + r.val, by omega⟩ k)
      = y (ix2 r k) :=
  concatenate_apply_piece (t := S32x256) 0 [⟨S16x256, x⟩, ⟨S16x256, y⟩] _ _ 1 Nat.one_lt_two S16x256 y rfl rfl 16 rfl
    (ix2 r k) (fun a ha => by match a with | ⟨0, _⟩ => exact absurd rfl ha | ⟨1, _⟩ => rfl) rfl

/-- The upper rows' halves. -/
theorem qcat_apply_0 (q : FVec F S64x128 .bf16) (p : ℕ) (hp : p < 2) (r : Fin 16) (k : Fin 256) :
    qcat q p hp (ix2 ⟨r.val, by omega⟩ k)
      = if h : k.val < 128 then q (ix2 ⟨32 * p + r.val, by omega⟩ ⟨k.val, h⟩) else Scalar.ofBits .bf16 0x0000#16 := by
  unfold qcat
  have h1 : 32 * p + r.val < 64 := by omega
  rw [rows32_upper]
  split
  · next h =>
    rw [cols16_left _ _ r k h]
    exact extractStridedSlice_apply _ q _ _ (ix2 ⟨32 * p + r.val, h1⟩ ⟨k.val, h⟩)
      (fun a => by match a with | ⟨0, _⟩ => rfl | ⟨1, _⟩ => exact (Nat.zero_add _).symm)
  · next h => rw [cols16_right _ _ r k h]; rfl

/-- The lower rows' halves. -/
theorem qcat_apply_1 (q : FVec F S64x128 .bf16) (p : ℕ) (hp : p < 2) (r : Fin 16) (k : Fin 256) :
    qcat q p hp (ix2 ⟨16 + r.val, by omega⟩ k)
      = if h : k.val < 128 then Scalar.ofBits .bf16 0x0000#16
        else q (ix2 ⟨32 * p + 16 + r.val, by omega⟩ ⟨k.val - 128, by omega⟩) := by
  unfold qcat
  have h1 : 32 * p + 16 + r.val < 64 := by omega
  rw [rows32_lower]
  split
  · next h => rw [cols16_left _ _ r k h]; rfl
  · next h =>
    rw [cols16_right _ _ r k h]
    exact extractStridedSlice_apply _ q _ _ (ix2 ⟨32 * p + 16 + r.val, h1⟩ ⟨k.val - 128, by omega⟩)
      (fun a => by match a with | ⟨0, _⟩ => rfl | ⟨1, _⟩ => exact (Nat.zero_add _).symm)

theorem cols4096_left {α : Type} (x y : S4096x128.Idx → α) (C : Fin 4096) (d : Fin 128) :
    concatenate S4096x256 1 [⟨S4096x128, x⟩, ⟨S4096x128, y⟩] concatenates_S4096x128_S4096x128_S4096x256_d1 (ix2 C ⟨d.val, by omega⟩)
      = x (ix2 C d) :=
  concatenate_apply_piece (t := S4096x256) 1 [⟨S4096x128, x⟩, ⟨S4096x128, y⟩] _ _ 0 Nat.zero_lt_two S4096x128 x rfl rfl 0 rfl
    (ix2 C d) (fun a ha => by match a with | ⟨0, _⟩ => rfl | ⟨1, _⟩ => exact absurd rfl ha) (Nat.zero_add _)

theorem cols4096_right {α : Type} (x y : S4096x128.Idx → α) (C : Fin 4096) (d : Fin 128) :
    concatenate S4096x256 1 [⟨S4096x128, x⟩, ⟨S4096x128, y⟩] concatenates_S4096x128_S4096x128_S4096x256_d1
        (ix2 C ⟨128 + d.val, by omega⟩)
      = y (ix2 C d) :=
  concatenate_apply_piece (t := S4096x256) 1 [⟨S4096x128, x⟩, ⟨S4096x128, y⟩] _ _ 1 Nat.one_lt_two S4096x128 y rfl rfl 128 rfl
    (ix2 C d) (fun a ha => by match a with | ⟨0, _⟩ => rfl | ⟨1, _⟩ => exact absurd rfl ha) rfl

/-- Two quads side by side. -/
theorem kcat_apply_left (c : Vec F S1x16384x128 .i8) (s : FVec F S16x1024 .f32) (p : ℕ) (hp : p < 2) (C : Fin 4096) (d : Fin 128) :
    kcat c s p hp (ix2 C ⟨d.val, by omega⟩)
      = deq (codes32 c) (words s (2 * p) (by omega)) (2 * p) (by omega) (ix2 C d) :=
  cols4096_left _ _ C d

theorem kcat_apply_right (c : Vec F S1x16384x128 .i8) (s : FVec F S16x1024 .f32) (p : ℕ) (hp : p < 2) (C : Fin 4096) (d : Fin 128) :
    kcat c s p hp (ix2 C ⟨128 + d.val, by omega⟩)
      = deq (codes32 c) (words s (2 * p + 1) (by omega)) (2 * p + 1) (by omega) (ix2 C d) :=
  cols4096_right _ _ C d

/-- Row `R` of a pair counts its head as `R / 4 % 4`. -/
theorem rowHead_apply (R : Fin 32) (C : Fin 4096) :
    k0_pay149 (iota .tc S32x4096 32 [0] iota_S32x4096_d0_w32) (ix2 R C) = BitVec.ofNat 32 (R.val / 4 % 4) := by
  unfold k0_pay149
  pointwise
  revert R
  decide

theorem ownMask_apply' (R : Fin 32) (C : Fin 4096) :
    ownMask (ix2 R C) = if R.val / 4 % 4 = C.val % 4 then 1#1 else 0#1 := by
  have hcol : IntOp.remsi ArithUnit.vector (BitVec.ofNat 32 C.val) (4#32) = BitVec.ofNat 32 (C.val % 4) := by
    rw [show (4#32) = BitVec.ofNat 32 4 from rfl, Routing.remsi_word .vector (by omega) (by omega) (by omega)]
  have hsel : Scalar.select (Scalar.cmpi CmpIPredicate.eq 4#32 0#32) 1#32 4#32 = 4#32 := by decide
  have hrow := rowHead_apply R C
  unfold ownMask
  generalize k0_pay149 (iota .tc S32x4096 32 [0] iota_S32x4096_d0_w32) = w at hrow ⊢
  unfold k0_pay151 k0_pay150
  pointwise
  simp only [hsel, hcol]
  rw [hrow]
  have h1 : C.val % 4 < 4 := by omega
  have h2 : R.val / 4 % 4 < 4 := by omega
  clear hcol hrow
  generalize C.val % 4 = a at *
  generalize R.val / 4 % 4 = b at *
  interval_cases a <;> interval_cases b <;> decide

theorem ownMask_apply (b : Fin 2) (hh : Fin 4) (g : Fin 4) (T : Fin 1024) (h2 : Fin 4) :
    ownMask (ix2 ⟨16 * b.val + (4 * hh.val + g.val), by omega⟩ ⟨4 * T.val + h2.val, by omega⟩)
      = if hh = h2 then 1#1 else 0#1 := by
  refine (ownMask_apply' ⟨16 * b.val + (4 * hh.val + g.val), by omega⟩ ⟨4 * T.val + h2.val, by omega⟩).trans ?_
  have e1 : (16 * b.val + (4 * hh.val + g.val)) / 4 % 4 = hh.val := by omega
  have e2 : (4 * T.val + h2.val) % 4 = h2.val := by omega
  simp only [e1, e2, Fin.ext_iff]

theorem mm_scores (a : FVec Ideal S32x256 .bf16) (b : FVec Ideal S4096x256 .bf16) (r : Fin 32) (c : Fin 4096) :
    matmul dot_S32x256_S4096x256_S32x4096_1_1_0_0_n_n none a b (constant S32x4096 .f32 0x00000000#32) (ix2 r c)
      = ∑ k : Fin 256, a (ix2 r k) * b (ix2 c k) := by
  pointwise

theorem mm_pv (a : FVec Ideal S32x4096 .bf16) (b : FVec Ideal S4096x256 .bf16) (r : Fin 32) (c : Fin 256) :
    matmul dot_S32x4096_S4096x256_S32x256_1_0_0_1_n_n none a b (constant S32x256 .f32 0x00000000#32) (ix2 r c)
      = ∑ k : Fin 4096, a (ix2 r k) * b (ix2 k c) := by
  pointwise

theorem negInf_eq : Ideal.ofBits FTy.f32 4286578688#32 = ⊥ := by
  simp [Ideal.ofBits, Ideal.ieee]

theorem zeroQ_eq : (Scalar.ofBits .bf16 0x0000#16 : Ideal .bf16) = 0 := by
  show Ideal.ofBits .bf16 0x0000#16 = 0
  simp [Ideal.ofBits, Ideal.ieee]

/-- A dequantised code: the code's integer times its scale. -/
def dq (c : Vec Ideal S1x16384x128 .i8) (s : FVec Ideal S16x1024 .f32) (T : Fin 1024) (h : Fin 16) (d : Fin 128) : EReal :=
  ((c (ix3 0 ⟨16 * T.val + h.val, by omega⟩ d) : BitVec 8).toInt : ℝ) * s (ix2 h T)

theorem kcat_left_dq (c : Vec Ideal S1x16384x128 .i8) (s : FVec Ideal S16x1024 .f32) (p : ℕ) (hp : p < 2) (T : Fin 1024)
    (hh : Fin 4) (d : Fin 128) :
    kcat c s p hp (ix2 ⟨4 * T.val + hh.val, by omega⟩ ⟨d.val, by omega⟩) = dq c s T ⟨8 * p + hh.val, by omega⟩ d := by
  rw [kcat_apply_left, deq_apply]
  unfold dq
  have e : 4 * (2 * p) + hh.val = 8 * p + hh.val := by omega
  simp only [e]
  rfl

theorem kcat_right_dq (c : Vec Ideal S1x16384x128 .i8) (s : FVec Ideal S16x1024 .f32) (p : ℕ) (hp : p < 2) (T : Fin 1024)
    (hh : Fin 4) (d : Fin 128) :
    kcat c s p hp (ix2 ⟨4 * T.val + hh.val, by omega⟩ ⟨128 + d.val, by omega⟩)
      = dq c s T ⟨8 * p + 4 + hh.val, by omega⟩ d := by
  rw [kcat_apply_right, deq_apply]
  unfold dq
  have e : 4 * (2 * p + 1) + hh.val = 8 * p + 4 + hh.val := by omega
  simp only [e]
  rfl

/-- A row's score of a token: the head's dequantised key against the row's query. -/
def score (q : FVec Ideal S64x128 .bf16) (c : Vec Ideal S1x16384x128 .i8) (s : FVec Ideal S16x1024 .f32) (r : Fin 64) (T : Fin 1024) :
    EReal :=
  (∑ d : Fin 128, q (ix2 r d) * dq c s T ⟨r.val / 4, by omega⟩ d) * smScale

theorem score_qk (q : FVec Ideal S64x128 .bf16) (c : Vec Ideal S1x16384x128 .i8) (s : FVec Ideal S16x1024 .f32) (p : ℕ) (hp : p < 2)
    (R : Fin 32) (C : Fin 4096) (hRC : R.val / 4 % 4 = C.val % 4) :
    ∑ k : Fin 256, qcat q p hp (ix2 R k) * kcat c s p hp (ix2 C k)
      = ∑ d : Fin 128, q (ix2 ⟨32 * p + R.val, by omega⟩ d) * dq c s ⟨C.val / 4, by omega⟩ ⟨8 * p + R.val / 4, by omega⟩ d := by
  have hC : C = ⟨4 * (⟨C.val / 4, by omega⟩ : Fin 1024).val + (⟨C.val % 4, by omega⟩ : Fin 4).val, by dsimp only; omega⟩ :=
    Fin.ext (by dsimp only; omega)
  by_cases h : R.val < 16
  · refine (half_sum_left _ _ (fun d => q (ix2 ⟨32 * p + R.val, by omega⟩ d)) ?_ ?_).trans ?_
    · intro d
      refine (qcat_apply_0 q p hp ⟨R.val, h⟩ ⟨d.val, by omega⟩).trans ?_
      rw [dif_pos d.isLt]
    · intro d
      refine (qcat_apply_0 q p hp ⟨R.val, h⟩ ⟨128 + d.val, by omega⟩).trans ?_
      rw [dif_neg (by show ¬ 128 + d.val < 128; omega), zeroQ_eq]
    · refine Finset.sum_congr rfl fun d _ => congrArg₂ _ rfl ?_
      refine (congrArg (fun C => kcat c s p hp (ix2 C ⟨d.val, by omega⟩)) hC).trans ((kcat_left_dq c s p hp _ _ d).trans ?_)
      congr 1
      exact Fin.ext (show 8 * p + C.val % 4 = 8 * p + R.val / 4 by omega)
  · have hr : R = ⟨16 + (⟨R.val - 16, by omega⟩ : Fin 16).val, by dsimp only; omega⟩ := Fin.ext (by dsimp only; omega)
    refine (half_sum_right _ _ (fun d => q (ix2 ⟨32 * p + R.val, by omega⟩ d)) ?_ ?_).trans ?_
    · intro d
      refine (congrArg (fun R => qcat q p hp (ix2 R ⟨d.val, by omega⟩)) hr).trans ((qcat_apply_1 q p hp _ _).trans ?_)
      rw [dif_pos d.isLt, zeroQ_eq]
    · intro d
      refine (congrArg (fun R => qcat q p hp (ix2 R ⟨128 + d.val, by omega⟩)) hr).trans ((qcat_apply_1 q p hp _ _).trans ?_)
      rw [dif_neg (by show ¬ 128 + d.val < 128; omega)]
      congr 1
      have e1 : 32 * p + 16 + (R.val - 16) = 32 * p + R.val := by omega
      have e2 : 128 + d.val - 128 = d.val := by omega
      simp only [e1, e2]
    · refine Finset.sum_congr rfl fun d _ => congrArg₂ _ rfl ?_
      refine (congrArg (fun C => kcat c s p hp (ix2 C ⟨128 + d.val, by omega⟩)) hC).trans ((kcat_right_dq c s p hp _ _ d).trans ?_)
      congr 1
      exact Fin.ext (show 8 * p + 4 + C.val % 4 = 8 * p + R.val / 4 by omega)

/-- Pair `p`'s masked scores at an index. -/
theorem scores_apply (q : FVec Ideal S64x128 .bf16) (c : Vec Ideal S1x16384x128 .i8) (s : FVec Ideal S16x1024 .f32) (p : ℕ) (hp : p < 2)
    (R : Fin 32) (C : Fin 4096) :
    scores q c s p hp (ix2 R C)
      = if R.val / 4 % 4 = C.val % 4 then score q c s ⟨32 * p + R.val, by omega⟩ ⟨C.val / 4, by omega⟩ else ⊥ := by
  unfold scores
  show Scalar.select (ownMask (ix2 R C)) (FloatOps.mulf (matmul dot_S32x256_S4096x256_S32x4096_1_1_0_0_n_n none (qcat q p hp)
    (kcat c s p hp) (constant S32x4096 .f32 0x00000000#32) (ix2 R C)) smScale) (Ideal.ofBits .f32 0xFF800000#32) = _
  rw [ownMask_apply', mm_scores, negInf_eq]
  split
  · next h =>
    rw [score_qk q c s p hp R C h]
    unfold score
    have e : 8 * p + R.val / 4 = (32 * p + R.val) / 4 := by omega
    simp only [e]
    rfl
  · rfl

theorem scores_masked (q : FVec Ideal S64x128 .bf16) (c : Vec Ideal S1x16384x128 .i8) (s : FVec Ideal S16x1024 .f32) (p : ℕ) (hp : p < 2)
    (R : Fin 32) (T : Fin 1024) (h : Fin 4) :
    scores q c s p hp (ix2 R ⟨4 * T.val + h.val, by omega⟩)
      = if (⟨R.val / 4 % 4, by omega⟩ : Fin 4) = h then score q c s ⟨32 * p + R.val, by omega⟩ T else ⊥ := by
  rw [scores_apply]
  have e1 : (4 * T.val + h.val) / 4 = T.val := by omega
  have e2 : (4 * T.val + h.val) % 4 = h.val := by omega
  simp only [e1, e2, Fin.ext_iff]

theorem tileM_apply (sc : FVec Ideal S32x4096 .f32) (mo : FVec Ideal S32x1 .f32) (r : Fin 32) :
    k0_pay154 sc mo (ix2 r 0) = max (mo (ix2 r 0)) ((Finset.univ : Finset (Fin 4096)).fold max ⊥ fun C => sc (ix2 r C)) := by
  unfold_payloads
  pointwise
  rw [negInf_eq]

theorem tileAlpha_apply (sc : FVec Ideal S32x4096 .f32) (mo : FVec Ideal S32x1 .f32) (r : Fin 32) :
    k0_pay155 sc mo (ix2 r 0) = Ideal.exp (mo (ix2 r 0) - k0_pay154 sc mo (ix2 r 0)) := by
  unfold k0_pay155
  pointwise

theorem tileP_apply (sc : FVec Ideal S32x4096 .f32) (mo : FVec Ideal S32x1 .f32) (r : Fin 32) (C : Fin 4096) :
    k0_pay156 sc mo (ix2 r C) = Ideal.exp (sc (ix2 r C) - k0_pay154 sc mo (ix2 r 0)) := by
  unfold k0_pay156
  pointwise

theorem tileL_apply (sc : FVec Ideal S32x4096 .f32) (mo lo : FVec Ideal S32x1 .f32) (r : Fin 32) :
    k0_pay157 sc mo lo (ix2 r 0) = lo (ix2 r 0) * Ideal.exp (mo (ix2 r 0) - k0_pay154 sc mo (ix2 r 0))
      + ∑ C : Fin 4096, Ideal.exp (sc (ix2 r C) - k0_pay154 sc mo (ix2 r 0)) := by
  unfold k0_pay157
  pointwise [tileAlpha_apply, tileP_apply]

theorem tileAcc_apply (sc : FVec Ideal S32x4096 .f32) (mo : FVec Ideal S32x1 .f32) (v : FVec Ideal S4096x256 .bf16)
    (ao : FVec Ideal S32x256 .f32) (r : Fin 32) (k : Fin 256) :
    tileAcc sc mo v ao (ix2 r k) = ao (ix2 r k) * Ideal.exp (mo (ix2 r 0) - k0_pay154 sc mo (ix2 r 0))
      + ∑ C : Fin 4096, Ideal.exp (sc (ix2 r C) - k0_pay154 sc mo (ix2 r 0)) * v (ix2 C k) := by
  unfold tileAcc k0_pay161 k0_pay160
  pointwise [tileAlpha_apply, tileP_apply]

/-! ## One tile of tokens -/

section step
variable (q : FVec Ideal S64x128 .bf16) (c : Vec Ideal S1x16384x128 .i8) (s : FVec Ideal S16x1024 .f32)
  (cv : Vec Ideal S1x16384x128 .i8) (sv : FVec Ideal S16x1024 .f32) (p : ℕ) (hp : p < 2)
  (mo lo : FVec Ideal S32x1 .f32) (ao : FVec Ideal S32x256 .f32) (R : Fin 32) (S : ℕ → EReal) (n : ℕ)
  (hS : ∀ T : Fin 1024, score q c s ⟨32 * p + R.val, by omega⟩ T = S (n + T.val))
  (hm : mo (ix2 R 0) = maxTo S n)
include hS hm

theorem step_m : k0_pay154 (scores q c s p hp) mo (ix2 R 0) = maxTo S (n + 1024) := by
  rw [tileM_apply, masked_fold (n := 1024) rfl _ _ _ (scores_masked q c s p hp R), maxTo_add, hm]
  rw [funext hS]

theorem step_l (hl : lo (ix2 R 0) = denTo S n) :
    k0_pay157 (scores q c s p hp) mo lo (ix2 R 0) = denTo S (n + 1024) := by
  rw [tileL_apply, masked_sum_one (n := 1024) rfl _ _ _ (scores_masked q c s p hp R), step_m q c s p hp mo R S n hS hm, hm, hl,
    ← denTo_add]
  simp only [hS]

theorem step_acc (w : ℕ → EReal) (d : Fin 128)
    (hw : ∀ T : Fin 1024, dq cv sv T ⟨(32 * p + R.val) / 4, by omega⟩ d = w (n + T.val))
    (ha : ao (ix2 R ⟨128 * (R.val / 16) + d.val, by omega⟩) = numTo S w n) :
    tileAcc (scores q c s p hp) mo (kcat cv sv p hp) ao (ix2 R ⟨128 * (R.val / 16) + d.val, by omega⟩)
      = numTo S w (n + 1024) := by
  rw [tileAcc_apply, masked_sum (n := 1024) rfl _ _ _ (scores_masked q c s p hp R), step_m q c s p hp mo R S n hS hm, hm, ha,
    ← numTo_add]
  congr 1
  refine Finset.sum_congr rfl fun T _ => ?_
  rw [hS, ← hw]
  congr 1
  rcases (by omega : R.val / 16 = 0 ∨ R.val / 16 = 1) with h | h
  · have e : (⟨128 * (R.val / 16) + d.val, by omega⟩ : Fin 256) = ⟨d.val, by omega⟩ := Fin.ext (by dsimp only; omega)
    rw [e]
    refine (kcat_left_dq cv sv p hp T ⟨R.val / 4 % 4, by omega⟩ d).trans ?_
    congr 1
    exact Fin.ext (by dsimp only; omega)
  · have e : (⟨128 * (R.val / 16) + d.val, by omega⟩ : Fin 256) = ⟨128 + d.val, by omega⟩ := Fin.ext (by dsimp only; omega)
    rw [e]
    refine (kcat_right_dq cv sv p hp T ⟨R.val / 4 % 4, by omega⟩ d).trans ?_
    congr 1
    exact Fin.ext (by dsimp only; omega)

end step

end Cert.KernelIdeal.Hand
-- ==== Proof.Cases.lean ====
module

public import proofs.«01_k».proof.Proof.Gen.KernelIdeal.Value
public import proofs.«01_k».proof.Proof.Tile
public import Idealize.ShloMosaic.Lib.Pipeline.ReadBack

@[expose] public section

set_option maxRecDepth 16384

noncomputable section

namespace Cert.KernelIdeal.Hand

open Cert.KernelIdeal Cert.KernelIdeal.Gen Cert.Softmax Idealize.ShloMosaic

variable {F : FTy → Type} [FloatOps F]

variable (e : Dev nD) (i : grid0.Coords)
  (arg2 : Memref sig .tc .vmem S1x64x128 .bf16) (h2 : arg2.IsWhole)
  (arg3 : Memref sig .tc .vmem S1x16x128 .bf16) (h3 : arg3.IsWhole)
  (arg4 : Memref sig .tc .vmem S1x16x128 .bf16) (h4 : arg4.IsWhole)
  (arg5 : Memref sig .tc .vmem S1x16384x128 .i8) (h5 : arg5.IsWhole)
  (arg6 : Memref sig .tc .vmem S1x16x1024 .f32) (h6 : arg6.IsWhole)
  (arg7 : Memref sig .tc .vmem S1x16384x128 .i8) (h7 : arg7.IsWhole)
  (arg8 : Memref sig .tc .vmem S1x16x1024 .f32) (h8 : arg8.IsWhole)
  (arg9 : Memref sig .tc .vmem S1x64x128 .bf16) (h9 : arg9.IsWhole)
  (arg10 : Memref sig .tc .vmem S1x16x128 .i8) (h10 : arg10.IsWhole)
  (arg11 : Memref sig .tc .vmem S1x16x1 .f32) (h11 : arg11.IsWhole)
  (arg12 : Memref sig .tc .vmem S1x16x128 .i8) (h12 : arg12.IsWhole)
  (arg13 : Memref sig .tc .vmem S1x16x1 .f32) (h13 : arg13.IsWhole)
  (arg14 : Memref sig .tc .vmem S64x1 .f32) (h14 : arg14.IsWhole)
  (arg15 : Memref sig .tc .vmem S64x1 .f32) (h15 : arg15.IsWhole)
  (arg16 : Memref sig .tc .vmem S64x256 .f32) (h16 : arg16.IsWhole)
  (x0 : Vec F S1x64x128 .bf16) (x1 : Vec F S1x16x128 .bf16) (x2 : Vec F S1x16x128 .bf16) (x3 : Vec F S1x16384x128 .i8) (x4 : Vec F S1x16x1024 .f32) (x5 : Vec F S1x16384x128 .i8) (x6 : Vec F S1x16x1024 .f32)
  (s0 : Vec F S64x1 .f32) (s1 : Vec F S64x1 .f32) (s2 : Vec F S64x256 .f32)

theorem hz : (![0, 0] : Fin 2 → Nat) = fun _ => 0 := funext fun a => by fin_cases a <;> rfl
theorem hz3 : (![0, 0, 0] : Fin 3 → Nat) = fun _ => 0 := funext fun a => by fin_cases a <;> rfl

/-- The queries, the codes' and the scales' blocks as the tile uses them. -/
abbrev qOf (x0 : Vec F S1x64x128 .bf16) : FVec F S64x128 .bf16 := k0_pay31 x0
abbrev sOf (x4 : Vec F S1x16x1024 .f32) : FVec F S16x1024 .f32 := k0_pay34 x4

abbrev lo64 : Rect S64x1 := Rect.unit ![0, 0] ![32, 1] inb_S64x1_S32x1_0_0
abbrev hi64 : Rect S64x1 := Rect.unit ![32, 0] ![32, 1] inb_S64x1_S32x1_32_0
abbrev lo256 : Rect S64x256 := Rect.unit ![0, 0] ![32, 256] inb_S64x256_S32x256_0_0
abbrev hi256 : Rect S64x256 := Rect.unit ![32, 0] ![32, 256] inb_S64x256_S32x256_32_0

/-- What a tile leaves of the running maximum. -/
def newM (x0 : Vec F S1x64x128 .bf16) (x3 : Vec F S1x16384x128 .i8) (x4 : Vec F S1x16x1024 .f32) (m0 m1 : FVec F S32x1 .f32) :
    List (View.Piece (Elt F) S64x1 .f32) :=
  [⟨hi64, k0_pay158 (scores (qOf x0) x3 (sOf x4) 1 (by decide)) m1⟩,
   ⟨lo64, k0_pay158 (scores (qOf x0) x3 (sOf x4) 0 (by decide)) m0⟩]

/-- What a tile leaves of the running sum. -/
def newL (x0 : Vec F S1x64x128 .bf16) (x3 : Vec F S1x16384x128 .i8) (x4 : Vec F S1x16x1024 .f32) (m0 m1 l0 l1 : FVec F S32x1 .f32) :
    List (View.Piece (Elt F) S64x1 .f32) :=
  [⟨hi64, k0_pay157 (scores (qOf x0) x3 (sOf x4) 1 (by decide)) m1 l1⟩,
   ⟨lo64, k0_pay157 (scores (qOf x0) x3 (sOf x4) 0 (by decide)) m0 l0⟩]

/-- What a tile leaves of the weighted sum. -/
def newAcc (x0 : Vec F S1x64x128 .bf16) (x3 : Vec F S1x16384x128 .i8) (x4 : Vec F S1x16x1024 .f32)
    (x5 : Vec F S1x16384x128 .i8) (x6 : Vec F S1x16x1024 .f32) (m0 m1 : FVec F S32x1 .f32) (a0 a1 : FVec F S32x256 .f32) :
    List (View.Piece (Elt F) S64x256 .f32) :=
  [⟨hi256, tileAcc (scores (qOf x0) x3 (sOf x4) 1 (by decide)) m1 (kcat x5 (sOf x6) 1 (by decide)) a1⟩,
   ⟨lo256, tileAcc (scores (qOf x0) x3 (sOf x4) 0 (by decide)) m0 (kcat x5 (sOf x6) 0 (by decide)) a0⟩]

theorem m_B (hc0 : ¬cond0_0 i) (hc1 : ¬cond0_1 i) :
    sout0_B_0 e i arg2 h2 arg3 h3 arg4 h4 arg5 h5 arg6 h6 arg7 h7 arg8 h8 arg9 h9 arg10 h10 arg11 h11 arg12 h12 arg13 h13 arg14 h14 arg15 h15 arg16 h16 hc0 hc1 x0 x1 x2 x3 x4 x5 x6 s0 s1 s2 = View.canon (newM x0 x3 x4 (View.ld s0 lo64) (View.ld s0 hi64)) := by
  unfold sout0_B_0
  rw [View.read_writes_eq_canon _ _ _ (scover0_B_0 e i arg2 h2 arg3 h3 arg4 h4 arg5 h5 arg6 h6 arg7 h7 arg8 h8 arg9 h9 arg10 h10 arg11 h11 arg12 h12 arg13 h13 arg14 h14 arg15 h15 arg16 h16 hc0 hc1 x0 x1 x2 x3 x4 x5 x6 s0 s1 s2)]
  unfold kernelRun0_B
  dsimp only
  sl_unfold_words
  simp only [View.readAt_eq_ld, h2.read_unread, h5.read_unread, h6.read_unread, h7.read_unread, h8.read_unread,
    h14.read_unread, h15.read_unread, h16.read_unread, View.ld_unit_zero (S := S1x64x128) hz3,
    View.ld_unit_zero (S := S1x16384x128) hz3, View.ld_unit_zero (S := S1x16x1024) hz3]
  rfl

theorem l_B (hc0 : ¬cond0_0 i) (hc1 : ¬cond0_1 i) :
    sout0_B_1 e i arg2 h2 arg3 h3 arg4 h4 arg5 h5 arg6 h6 arg7 h7 arg8 h8 arg9 h9 arg10 h10 arg11 h11 arg12 h12 arg13 h13 arg14 h14 arg15 h15 arg16 h16 hc0 hc1 x0 x1 x2 x3 x4 x5 x6 s0 s1 s2 = View.canon (newL x0 x3 x4 (View.ld s0 lo64) (View.ld s0 hi64) (View.ld s1 lo64) (View.ld s1 hi64)) := by
  unfold sout0_B_1
  rw [View.read_writes_eq_canon _ _ _ (scover0_B_1 e i arg2 h2 arg3 h3 arg4 h4 arg5 h5 arg6 h6 arg7 h7 arg8 h8 arg9 h9 arg10 h10 arg11 h11 arg12 h12 arg13 h13 arg14 h14 arg15 h15 arg16 h16 hc0 hc1 x0 x1 x2 x3 x4 x5 x6 s0 s1 s2)]
  unfold kernelRun0_B
  dsimp only
  sl_unfold_words
  simp only [View.readAt_eq_ld, h2.read_unread, h5.read_unread, h6.read_unread, h7.read_unread, h8.read_unread,
    h14.read_unread, h15.read_unread, h16.read_unread, View.ld_unit_zero (S := S1x64x128) hz3,
    View.ld_unit_zero (S := S1x16384x128) hz3, View.ld_unit_zero (S := S1x16x1024) hz3]
  rfl

theorem acc_B (hc0 : ¬cond0_0 i) (hc1 : ¬cond0_1 i) :
    sout0_B_2 e i arg2 h2 arg3 h3 arg4 h4 arg5 h5 arg6 h6 arg7 h7 arg8 h8 arg9 h9 arg10 h10 arg11 h11 arg12 h12 arg13 h13 arg14 h14 arg15 h15 arg16 h16 hc0 hc1 x0 x1 x2 x3 x4 x5 x6 s0 s1 s2 = View.canon (newAcc x0 x3 x4 x5 x6 (View.ld s0 lo64) (View.ld s0 hi64) (View.ld s2 lo256) (View.ld s2 hi256)) := by
  unfold sout0_B_2
  rw [View.read_writes_eq_canon _ _ _ (scover0_B_2 e i arg2 h2 arg3 h3 arg4 h4 arg5 h5 arg6 h6 arg7 h7 arg8 h8 arg9 h9 arg10 h10 arg11 h11 arg12 h12 arg13 h13 arg14 h14 arg15 h15 arg16 h16 hc0 hc1 x0 x1 x2 x3 x4 x5 x6 s0 s1 s2)]
  unfold kernelRun0_B
  dsimp only
  sl_unfold_words
  simp only [View.readAt_eq_ld, h2.read_unread, h5.read_unread, h6.read_unread, h7.read_unread, h8.read_unread,
    h14.read_unread, h15.read_unread, h16.read_unread, View.ld_unit_zero (S := S1x64x128) hz3,
    View.ld_unit_zero (S := S1x16384x128) hz3, View.ld_unit_zero (S := S1x16x1024) hz3]
  rfl

abbrev all64 : Rect S64x1 := Rect.unit ![0, 0] ![64, 1] inb_S64x1_S64x1_0_0
abbrev all256 : Rect S64x256 := Rect.unit ![0, 0] ![64, 256] inb_S64x256_S64x256_0_0

/-- The contents the first tile starts from. -/
abbrev initM : Vec F S64x1 .f32 := k0_pay28
abbrev initL : Vec F S64x1 .f32 := k0_pay29
abbrev initAcc : Vec F S64x256 .f32 := k0_pay30

section reads
variable {sp : Space}
theorem fill64 (v : View sig .tc sp S64x1 .f32) (Z : Vec F S64x1 .f32) (r : Rect S64x1) :
    v.readCov (Val := Elt F) [⟨all64, Z⟩] r.toLoadRect = View.ld Z r :=
  View.readCov_fill v _ Z [] r (fun a => by fin_cases a <;> rfl)
theorem skip64 (v : View sig .tc sp S64x1 .f32) (w : Vec F S32x1 .f32) (L : List (View.Piece (Elt F) S64x1 .f32)) :
    v.readCov (⟨lo64, w⟩ :: L) hi64.toLoadRect = v.readCov L hi64.toLoadRect :=
  View.readCov_skip v lo64 w L hi64.toLoadRect (by decide)
theorem fill256 (v : View sig .tc sp S64x256 .f32) (Z : Vec F S64x256 .f32) (r : Rect S64x256) :
    v.readCov (Val := Elt F) [⟨all256, Z⟩] r.toLoadRect = View.ld Z r :=
  View.readCov_fill v _ Z [] r (fun a => by fin_cases a <;> rfl)
theorem skip256 (v : View sig .tc sp S64x256 .f32) (w : Vec F S32x256 .f32) (L : List (View.Piece (Elt F) S64x256 .f32)) :
    v.readCov (⟨lo256, w⟩ :: L) hi256.toLoadRect = v.readCov L hi256.toLoadRect :=
  View.readCov_skip v lo256 w L hi256.toLoadRect (by decide)
theorem all64_read (v : View sig .tc sp S64x1 .f32) (L : List (View.Piece (Elt F) S64x1 .f32)) :
    v.readCov L all64.toLoadRect = View.canon L := by
  rw [View.readCov_eq_canon']
  exact View.ld_unit_zero (S := S64x1) hz _ (View.canon L)
theorem all256_read (v : View sig .tc sp S64x256 .f32) (L : List (View.Piece (Elt F) S64x256 .f32)) :
    v.readCov L all256.toLoadRect = View.canon L := by
  rw [View.readCov_eq_canon']
  exact View.ld_unit_zero (S := S64x256) hz _ (View.canon L)
end reads

theorem m_A (hc0 : cond0_0 i) (hc1 : ¬cond0_1 i) :
    sout0_A_0 e i arg2 h2 arg3 h3 arg4 h4 arg5 h5 arg6 h6 arg7 h7 arg8 h8 arg9 h9 arg10 h10 arg11 h11 arg12 h12 arg13 h13 arg14 h14 arg15 h15 arg16 h16 hc0 hc1 x0 x1 x2 x3 x4 x5 x6 = View.canon (newM x0 x3 x4 (View.ld (Val := Elt F) initM lo64) (View.ld (Val := Elt F) initM hi64)
      ++ [⟨all64, initM⟩]) := by
  unfold sout0_A_0
  rw [View.read_writes_eq_canon _ _ _ (scover0_A_0 e i arg2 h2 arg3 h3 arg4 h4 arg5 h5 arg6 h6 arg7 h7 arg8 h8 arg9 h9 arg10 h10 arg11 h11 arg12 h12 arg13 h13 arg14 h14 arg15 h15 arg16 h16 hc0 hc1 x0 x1 x2 x3 x4 x5 x6)]
  unfold kernelRun0_A
  dsimp only
  sl_unfold_words
  simp only [View.readAt_eq_ld, h2.read_unread, h3.read_unread, h4.read_unread, h5.read_unread, h6.read_unread,
    h7.read_unread, h8.read_unread, h14.read_unread, h15.read_unread, h16.read_unread,
    View.ld_unit_zero (S := S1x64x128) hz3, View.ld_unit_zero (S := S1x16384x128) hz3,
    View.ld_unit_zero (S := S1x16x1024) hz3, View.ld_unit_zero (S := S1x16x128) hz3, skip64, fill64, skip256, fill256]
  rfl

theorem l_A (hc0 : cond0_0 i) (hc1 : ¬cond0_1 i) :
    sout0_A_1 e i arg2 h2 arg3 h3 arg4 h4 arg5 h5 arg6 h6 arg7 h7 arg8 h8 arg9 h9 arg10 h10 arg11 h11 arg12 h12 arg13 h13 arg14 h14 arg15 h15 arg16 h16 hc0 hc1 x0 x1 x2 x3 x4 x5 x6 = View.canon (newL x0 x3 x4 (View.ld (Val := Elt F) initM lo64) (View.ld (Val := Elt F) initM hi64) (View.ld (Val := Elt F) initL lo64) (View.ld (Val := Elt F) initL hi64)
      ++ [⟨all64, initL⟩]) := by
  unfold sout0_A_1
  rw [View.read_writes_eq_canon _ _ _ (scover0_A_1 e i arg2 h2 arg3 h3 arg4 h4 arg5 h5 arg6 h6 arg7 h7 arg8 h8 arg9 h9 arg10 h10 arg11 h11 arg12 h12 arg13 h13 arg14 h14 arg15 h15 arg16 h16 hc0 hc1 x0 x1 x2 x3 x4 x5 x6)]
  unfold kernelRun0_A
  dsimp only
  sl_unfold_words
  simp only [View.readAt_eq_ld, h2.read_unread, h3.read_unread, h4.read_unread, h5.read_unread, h6.read_unread,
    h7.read_unread, h8.read_unread, h14.read_unread, h15.read_unread, h16.read_unread,
    View.ld_unit_zero (S := S1x64x128) hz3, View.ld_unit_zero (S := S1x16384x128) hz3,
    View.ld_unit_zero (S := S1x16x1024) hz3, View.ld_unit_zero (S := S1x16x128) hz3, skip64, fill64, skip256, fill256]
  rfl

theorem acc_A (hc0 : cond0_0 i) (hc1 : ¬cond0_1 i) :
    sout0_A_2 e i arg2 h2 arg3 h3 arg4 h4 arg5 h5 arg6 h6 arg7 h7 arg8 h8 arg9 h9 arg10 h10 arg11 h11 arg12 h12 arg13 h13 arg14 h14 arg15 h15 arg16 h16 hc0 hc1 x0 x1 x2 x3 x4 x5 x6 = View.canon (newAcc x0 x3 x4 x5 x6 (View.ld (Val := Elt F) initM lo64) (View.ld (Val := Elt F) initM hi64) (View.ld (Val := Elt F) initAcc lo256) (View.ld (Val := Elt F) initAcc hi256)
      ++ [⟨all256, initAcc⟩]) := by
  unfold sout0_A_2
  rw [View.read_writes_eq_canon _ _ _ (scover0_A_2 e i arg2 h2 arg3 h3 arg4 h4 arg5 h5 arg6 h6 arg7 h7 arg8 h8 arg9 h9 arg10 h10 arg11 h11 arg12 h12 arg13 h13 arg14 h14 arg15 h15 arg16 h16 hc0 hc1 x0 x1 x2 x3 x4 x5 x6)]
  unfold kernelRun0_A
  dsimp only
  sl_unfold_words
  simp only [View.readAt_eq_ld, h2.read_unread, h3.read_unread, h4.read_unread, h5.read_unread, h6.read_unread,
    h7.read_unread, h8.read_unread, h14.read_unread, h15.read_unread, h16.read_unread,
    View.ld_unit_zero (S := S1x64x128) hz3, View.ld_unit_zero (S := S1x16384x128) hz3,
    View.ld_unit_zero (S := S1x16x1024) hz3, View.ld_unit_zero (S := S1x16x128) hz3, skip64, fill64, skip256, fill256]
  rfl

theorem m_C (hc0 : ¬cond0_0 i) (hc1 : cond0_1 i) :
    sout0_C_0 e i arg2 h2 arg3 h3 arg4 h4 arg5 h5 arg6 h6 arg7 h7 arg8 h8 arg9 h9 arg10 h10 arg11 h11 arg12 h12 arg13 h13 arg14 h14 arg15 h15 arg16 h16 hc0 hc1 x0 x1 x2 x3 x4 x5 x6 s0 s1 s2 = View.canon (newM x0 x3 x4 (View.ld s0 lo64) (View.ld s0 hi64)) := by
  unfold sout0_C_0
  rw [View.read_writes_eq_canon _ _ _ (scover0_C_0 e i arg2 h2 arg3 h3 arg4 h4 arg5 h5 arg6 h6 arg7 h7 arg8 h8 arg9 h9 arg10 h10 arg11 h11 arg12 h12 arg13 h13 arg14 h14 arg15 h15 arg16 h16 hc0 hc1 x0 x1 x2 x3 x4 x5 x6 s0 s1 s2)]
  unfold kernelRun0_C
  dsimp only
  sl_unfold_words
  simp only [View.readAt_eq_ld, h2.read_unread, h3.read_unread, h4.read_unread, h5.read_unread, h6.read_unread,
    h7.read_unread, h8.read_unread, h14.read_unread, h15.read_unread, h16.read_unread,
    View.ld_unit_zero (S := S1x64x128) hz3, View.ld_unit_zero (S := S1x16384x128) hz3,
    View.ld_unit_zero (S := S1x16x1024) hz3, View.ld_unit_zero (S := S1x16x128) hz3]
  rfl

theorem l_C (hc0 : ¬cond0_0 i) (hc1 : cond0_1 i) :
    sout0_C_1 e i arg2 h2 arg3 h3 arg4 h4 arg5 h5 arg6 h6 arg7 h7 arg8 h8 arg9 h9 arg10 h10 arg11 h11 arg12 h12 arg13 h13 arg14 h14 arg15 h15 arg16 h16 hc0 hc1 x0 x1 x2 x3 x4 x5 x6 s0 s1 s2 = View.canon (newL x0 x3 x4 (View.ld s0 lo64) (View.ld s0 hi64) (View.ld s1 lo64) (View.ld s1 hi64)) := by
  unfold sout0_C_1
  rw [View.read_writes_eq_canon _ _ _ (scover0_C_1 e i arg2 h2 arg3 h3 arg4 h4 arg5 h5 arg6 h6 arg7 h7 arg8 h8 arg9 h9 arg10 h10 arg11 h11 arg12 h12 arg13 h13 arg14 h14 arg15 h15 arg16 h16 hc0 hc1 x0 x1 x2 x3 x4 x5 x6 s0 s1 s2)]
  unfold kernelRun0_C
  dsimp only
  sl_unfold_words
  simp only [View.readAt_eq_ld, h2.read_unread, h3.read_unread, h4.read_unread, h5.read_unread, h6.read_unread,
    h7.read_unread, h8.read_unread, h14.read_unread, h15.read_unread, h16.read_unread,
    View.ld_unit_zero (S := S1x64x128) hz3, View.ld_unit_zero (S := S1x16384x128) hz3,
    View.ld_unit_zero (S := S1x16x1024) hz3, View.ld_unit_zero (S := S1x16x128) hz3]
  rfl

theorem acc_C (hc0 : ¬cond0_0 i) (hc1 : cond0_1 i) :
    sout0_C_2 e i arg2 h2 arg3 h3 arg4 h4 arg5 h5 arg6 h6 arg7 h7 arg8 h8 arg9 h9 arg10 h10 arg11 h11 arg12 h12 arg13 h13 arg14 h14 arg15 h15 arg16 h16 hc0 hc1 x0 x1 x2 x3 x4 x5 x6 s0 s1 s2 = View.canon (newAcc x0 x3 x4 x5 x6 (View.ld s0 lo64) (View.ld s0 hi64) (View.ld s2 lo256) (View.ld s2 hi256)) := by
  unfold sout0_C_2
  rw [View.read_writes_eq_canon _ _ _ (scover0_C_2 e i arg2 h2 arg3 h3 arg4 h4 arg5 h5 arg6 h6 arg7 h7 arg8 h8 arg9 h9 arg10 h10 arg11 h11 arg12 h12 arg13 h13 arg14 h14 arg15 h15 arg16 h16 hc0 hc1 x0 x1 x2 x3 x4 x5 x6 s0 s1 s2)]
  unfold kernelRun0_C
  dsimp only
  sl_unfold_words
  simp only [View.readAt_eq_ld, h2.read_unread, h3.read_unread, h4.read_unread, h5.read_unread, h6.read_unread,
    h7.read_unread, h8.read_unread, h14.read_unread, h15.read_unread, h16.read_unread,
    View.ld_unit_zero (S := S1x64x128) hz3, View.ld_unit_zero (S := S1x16384x128) hz3,
    View.ld_unit_zero (S := S1x16x1024) hz3, View.ld_unit_zero (S := S1x16x128) hz3]
  rfl

/-- The new token's scores before masking. -/
abbrev newRaw (x0 : Vec F S1x64x128 .bf16) (x1 : Vec F S1x16x128 .bf16) : FVec F S64x16 .f32 :=
  k0_pay16 (qOf x0) (k0_pay4 x1) (k0_pay5 x1)

abbrev rows64x16 : IVec S64x16 32 := iota .tc S64x16 32 [0] iota_S64x16_d0_w32

/-- The new token's scores, masked to a row's own head. -/
def newScores (x0 : Vec F S1x64x128 .bf16) (x1 : Vec F S1x16x128 .bf16) : FVec F S64x16 .f32 :=
  k0_pay19 (newRaw x0 x1) rows64x16 (4#32) k0_pay17 k0_pay18 (1#32) (0#32)

/-- The new token's value rows, quantised and dequantised. -/
def newV (x2 : Vec F S1x16x128 .bf16) : FVec F S16x128 .bf16 := k0_pay15 (k0_pay7 x2) (k0_pay8 x2) k0_pay9

/-- The attention output from the running statistics and the new token. -/
def finish (x0 : Vec F S1x64x128 .bf16) (x1 x2 : Vec F S1x16x128 .bf16) (M L : FVec F S64x1 .f32) (A : FVec F S64x256 .f32) :
    FVec F S64x128 .bf16 :=
  k0_pay27 (k0_pay21 (newRaw x0 x1) rows64x16 (4#32) k0_pay17 k0_pay18 (1#32) (0#32) M)
    (k0_pay23 (newRaw x0 x1) rows64x16 (4#32) k0_pay17 k0_pay18 (1#32) (0#32) M L)
    (k0_pay24 (newV x2) (newRaw x0 x1) rows64x16 (4#32) k0_pay17 k0_pay18 (1#32) (0#32) M)
    A (iota .tc S64x128 32 [0] iota_S64x128_d0_w32) (16#32) k0_pay25 k0_pay26 (0#32)

theorem o7_C (hc0 : ¬cond0_0 i) (hc1 : cond0_1 i) :
    out0_C_7 e i arg2 h2 arg3 h3 arg4 h4 arg5 h5 arg6 h6 arg7 h7 arg8 h8 arg9 h9 arg10 h10 arg11 h11 arg12 h12 arg13 h13 arg14 h14 arg15 h15 arg16 h16 hc0 hc1 x0 x1 x2 x3 x4 x5 x6 s0 s1 s2 = k0_pay2 (finish x0 x1 x2
      (View.canon (newM x0 x3 x4 (View.ld s0 lo64) (View.ld s0 hi64)))
      (View.canon (newL x0 x3 x4 (View.ld s0 lo64) (View.ld s0 hi64) (View.ld s1 lo64) (View.ld s1 hi64)))
      (View.canon (newAcc x0 x3 x4 x5 x6 (View.ld s0 lo64) (View.ld s0 hi64) (View.ld s2 lo256) (View.ld s2 hi256)))) := by
  unfold out0_C_7
  rw [View.read_writes_eq_canon _ _ _ (cover0_C_7 e i arg2 h2 arg3 h3 arg4 h4 arg5 h5 arg6 h6 arg7 h7 arg8 h8 arg9 h9 arg10 h10 arg11 h11 arg12 h12 arg13 h13 arg14 h14 arg15 h15 arg16 h16 hc0 hc1 x0 x1 x2 x3 x4 x5 x6 s0 s1 s2)]
  unfold kernelRun0_C
  dsimp only
  sl_unfold_words
  rw [View.canon_unit_zero (S := S1x64x128) hz3]
  simp only [View.readAt_eq_ld, h2.read_unread, h3.read_unread, h4.read_unread, h5.read_unread, h6.read_unread,
    h7.read_unread, h8.read_unread, h14.read_unread, h15.read_unread, h16.read_unread,
    View.ld_unit_zero (S := S1x64x128) hz3, View.ld_unit_zero (S := S1x16384x128) hz3,
    View.ld_unit_zero (S := S1x16x1024) hz3, View.ld_unit_zero (S := S1x16x128) hz3, all64_read, all256_read]
  rfl

theorem o8_C (hc0 : ¬cond0_0 i) (hc1 : cond0_1 i) :
    out0_C_8 e i arg2 h2 arg3 h3 arg4 h4 arg5 h5 arg6 h6 arg7 h7 arg8 h8 arg9 h9 arg10 h10 arg11 h11 arg12 h12 arg13 h13 arg14 h14 arg15 h15 arg16 h16 hc0 hc1 x0 x1 x2 x3 x4 x5 x6 s0 s1 s2 = k0_pay11 (k0_pay5 x1) := by
  unfold out0_C_8
  rw [View.read_writes_eq_canon _ _ _ (cover0_C_8 e i arg2 h2 arg3 h3 arg4 h4 arg5 h5 arg6 h6 arg7 h7 arg8 h8 arg9 h9 arg10 h10 arg11 h11 arg12 h12 arg13 h13 arg14 h14 arg15 h15 arg16 h16 hc0 hc1 x0 x1 x2 x3 x4 x5 x6 s0 s1 s2)]
  unfold kernelRun0_C
  dsimp only
  sl_unfold_words
  rw [View.canon_unit_zero (S := S1x16x128) hz3]
  simp only [View.readAt_eq_ld, h2.read_unread, h3.read_unread, h4.read_unread, h5.read_unread, h6.read_unread,
    h7.read_unread, h8.read_unread, h14.read_unread, h15.read_unread, h16.read_unread,
    View.ld_unit_zero (S := S1x64x128) hz3, View.ld_unit_zero (S := S1x16384x128) hz3,
    View.ld_unit_zero (S := S1x16x1024) hz3, View.ld_unit_zero (S := S1x16x128) hz3]

theorem o9_C (hc0 : ¬cond0_0 i) (hc1 : cond0_1 i) :
    out0_C_9 e i arg2 h2 arg3 h3 arg4 h4 arg5 h5 arg6 h6 arg7 h7 arg8 h8 arg9 h9 arg10 h10 arg11 h11 arg12 h12 arg13 h13 arg14 h14 arg15 h15 arg16 h16 hc0 hc1 x0 x1 x2 x3 x4 x5 x6 s0 s1 s2 = k0_pay13 (k0_pay4 x1) := by
  unfold out0_C_9
  rw [View.read_writes_eq_canon _ _ _ (cover0_C_9 e i arg2 h2 arg3 h3 arg4 h4 arg5 h5 arg6 h6 arg7 h7 arg8 h8 arg9 h9 arg10 h10 arg11 h11 arg12 h12 arg13 h13 arg14 h14 arg15 h15 arg16 h16 hc0 hc1 x0 x1 x2 x3 x4 x5 x6 s0 s1 s2)]
  unfold kernelRun0_C
  dsimp only
  sl_unfold_words
  rw [View.canon_unit_zero (S := S1x16x1) hz3]
  simp only [View.readAt_eq_ld, h2.read_unread, h3.read_unread, h4.read_unread, h5.read_unread, h6.read_unread,
    h7.read_unread, h8.read_unread, h14.read_unread, h15.read_unread, h16.read_unread,
    View.ld_unit_zero (S := S1x64x128) hz3, View.ld_unit_zero (S := S1x16384x128) hz3,
    View.ld_unit_zero (S := S1x16x1024) hz3, View.ld_unit_zero (S := S1x16x128) hz3]

theorem o10_C (hc0 : ¬cond0_0 i) (hc1 : cond0_1 i) :
    out0_C_10 e i arg2 h2 arg3 h3 arg4 h4 arg5 h5 arg6 h6 arg7 h7 arg8 h8 arg9 h9 arg10 h10 arg11 h11 arg12 h12 arg13 h13 arg14 h14 arg15 h15 arg16 h16 hc0 hc1 x0 x1 x2 x3 x4 x5 x6 s0 s1 s2 = k0_pay12 (k0_pay8 x2) k0_pay9 := by
  unfold out0_C_10
  rw [View.read_writes_eq_canon _ _ _ (cover0_C_10 e i arg2 h2 arg3 h3 arg4 h4 arg5 h5 arg6 h6 arg7 h7 arg8 h8 arg9 h9 arg10 h10 arg11 h11 arg12 h12 arg13 h13 arg14 h14 arg15 h15 arg16 h16 hc0 hc1 x0 x1 x2 x3 x4 x5 x6 s0 s1 s2)]
  unfold kernelRun0_C
  dsimp only
  sl_unfold_words
  rw [View.canon_unit_zero (S := S1x16x128) hz3]
  simp only [View.readAt_eq_ld, h2.read_unread, h3.read_unread, h4.read_unread, h5.read_unread, h6.read_unread,
    h7.read_unread, h8.read_unread, h14.read_unread, h15.read_unread, h16.read_unread,
    View.ld_unit_zero (S := S1x64x128) hz3, View.ld_unit_zero (S := S1x16384x128) hz3,
    View.ld_unit_zero (S := S1x16x1024) hz3, View.ld_unit_zero (S := S1x16x128) hz3]

theorem o11_C (hc0 : ¬cond0_0 i) (hc1 : cond0_1 i) :
    out0_C_11 e i arg2 h2 arg3 h3 arg4 h4 arg5 h5 arg6 h6 arg7 h7 arg8 h8 arg9 h9 arg10 h10 arg11 h11 arg12 h12 arg13 h13 arg14 h14 arg15 h15 arg16 h16 hc0 hc1 x0 x1 x2 x3 x4 x5 x6 s0 s1 s2 = k0_pay14 (k0_pay7 x2) := by
  unfold out0_C_11
  rw [View.read_writes_eq_canon _ _ _ (cover0_C_11 e i arg2 h2 arg3 h3 arg4 h4 arg5 h5 arg6 h6 arg7 h7 arg8 h8 arg9 h9 arg10 h10 arg11 h11 arg12 h12 arg13 h13 arg14 h14 arg15 h15 arg16 h16 hc0 hc1 x0 x1 x2 x3 x4 x5 x6 s0 s1 s2)]
  unfold kernelRun0_C
  dsimp only
  sl_unfold_words
  rw [View.canon_unit_zero (S := S1x16x1) hz3]
  simp only [View.readAt_eq_ld, h2.read_unread, h3.read_unread, h4.read_unread, h5.read_unread, h6.read_unread,
    h7.read_unread, h8.read_unread, h14.read_unread, h15.read_unread, h16.read_unread,
    View.ld_unit_zero (S := S1x64x128) hz3, View.ld_unit_zero (S := S1x16384x128) hz3,
    View.ld_unit_zero (S := S1x16x1024) hz3, View.ld_unit_zero (S := S1x16x128) hz3]

end Cert.KernelIdeal.Hand
-- ==== Proof.Spec.lean ====
/-
  What the problem computes, over one row: the per-row int8 quantiser and the attention of one
  query row over the cached tokens and the one new token.
-/
module

public import proofs.«01_k».proof.Proof.Mask

@[expose] public section

noncomputable section

namespace Cert.Softmax

open Idealize.ShloMosaic

theorem fold_eq_sup {N : ℕ} (f : Fin N → EReal) :
    (Finset.univ : Finset (Fin N)).fold max ⊥ f = Finset.univ.sup f := rfl

theorem fold_fin_one (f : Fin 1 → EReal) : (Finset.univ : Finset (Fin 1)).fold max ⊥ f = f 0 :=
  single_fold f _ 0 fun h => by rw [Subsingleton.elim h 0, if_pos rfl]

theorem sum_fin_one (f : Fin 1 → EReal) : ∑ i, f i = f 0 := Fin.sum_univ_one f

/-- The largest magnitude of a row. -/
def rowMax (x : Fin 128 → EReal) : EReal :=
  (Finset.univ : Finset (Fin 128)).fold max (Ideal.ofBits .f32 4286578688#32) fun d =>
    FloatOps.absf (F := Ideal) (φ := FTy.f32) (x d)

/-- The row's scale: its largest magnitude over 127, or one for a row of zeros. -/
def qScale (x : Fin 128 → EReal) : EReal :=
  if rowMax x = 0 then 1 else Ideal.div (rowMax x) (Ideal.ofBits .f32 1123942400#32)

/-- The row's codes: rounded to the nearest even integer and clipped to 127 either way. -/
def qCode (x : Fin 128 → EReal) (d : Fin 128) : BitVec 8 :=
  FloatOps.fptosi (F := Ideal) (φ := FTy.f32) 8 (min (((127#32).toInt : ℝ) : EReal) (max (((4294967169#32).toInt : ℝ) : EReal)
    (Ideal.liftRound Ideal.roundHalfEven (Ideal.div (x d) (qScale x)))))

/-- The row dequantised again. -/
def qVal (x : Fin 128 → EReal) (d : Fin 128) : EReal :=
  FloatOps.sitofp (F := Ideal) FTy.bf16 (qCode x d) * qScale x

/-- The score of a query row against a row of keys. -/
def dotScale (q k : Fin 128 → EReal) : EReal := (∑ d, q d * k d) * Ideal.ofBits .f32 1035273459#32

/-- The attention of one row over `N` cached scores `S` with values `w` and one new token of score `sn`, value `vn`. -/
def attend (N : ℕ) (S w : ℕ → EReal) (sn vn : EReal) : EReal :=
  Ideal.div
    ((∑ k : Fin N, Ideal.exp (S k.val - max (maxTo S N) sn) * w k.val) + Ideal.exp (sn - max (maxTo S N) sn) * vn)
    ((∑ k : Fin N, Ideal.exp (S k.val - max (maxTo S N) sn)) + Ideal.exp (sn - max (maxTo S N) sn))

/-- The same from the running statistics. -/
theorem attend_eq (N : ℕ) (S w : ℕ → EReal) (sn vn : EReal) :
    Ideal.div
      (numTo S w N * Ideal.exp (maxTo S N - max (maxTo S N) sn) + Ideal.exp (sn - max (maxTo S N) sn) * vn)
      (denTo S N * Ideal.exp (maxTo S N - max (maxTo S N) sn) + Ideal.exp (sn - max (maxTo S N) sn))
      = attend N S w sn vn := by
  rw [numTo_final, denTo_final]
  rfl

/-- The same from all the scores at once. -/
theorem attend_of {N : ℕ} (s' w' : Fin N → EReal) (S w : ℕ → EReal) (sn vn : EReal)
    (hS : ∀ T, s' T = S T.val) (hw : ∀ T, w' T = w T.val) :
    Ideal.div
      ((∑ k, Ideal.exp (s' k - max (Finset.univ.sup s') sn) * w' k) + Ideal.exp (sn - max (Finset.univ.sup s') sn) * vn)
      ((∑ k, Ideal.exp (s' k - max (Finset.univ.sup s') sn)) + Ideal.exp (sn - max (Finset.univ.sup s') sn))
      = attend N S w sn vn := by
  obtain rfl : s' = fun T => S T.val := funext hS
  obtain rfl : w' = fun T => w T.val := funext hw
  rw [attend, maxTo_fin]

/-- A cached row, dequantised. -/
def cached (c : Fin 32768 → Fin 128 → BitVec 8) (s : Fin 32768 → EReal) (T : ℕ) (d : Fin 128) : EReal :=
  (((c ⟨T % 32768, Nat.mod_lt _ (by decide)⟩ d).toInt : ℝ) : EReal) * s ⟨T % 32768, Nat.mod_lt _ (by decide)⟩

theorem cached_fin (c : Fin 32768 → Fin 128 → BitVec 8) (s : Fin 32768 → EReal) (T : Fin 32768) (d : Fin 128) :
    cached c s T.val d = (((c T d).toInt : ℝ) : EReal) * s T := by
  have h : (⟨T.val % 32768, Nat.mod_lt _ (by decide)⟩ : Fin 32768) = T := Fin.ext (Nat.mod_eq_of_lt T.isLt)
  unfold cached
  rw [h]

/-- One output element: the query row `q` against the cache of its head and the new token's key and value rows. -/
def rowOut (q : Fin 128 → EReal) (kc : Fin 32768 → Fin 128 → BitVec 8) (ks : Fin 32768 → EReal)
    (vc : Fin 32768 → Fin 128 → BitVec 8) (vs : Fin 32768 → EReal) (kn vn : Fin 128 → EReal) (d : Fin 128) : EReal :=
  attend 32768 (fun T => dotScale q (cached kc ks T)) (fun T => cached vc vs T d) (dotScale q (qVal kn)) (qVal vn d)

end Cert.Softmax
-- ==== Proof.Quant.lean ====
module

public import proofs.«01_k».proof.Proof.Cases
public import proofs.«01_k».proof.Proof.Spec

@[expose] public section

set_option maxRecDepth 16384

noncomputable section

namespace Cert.KernelIdeal.Hand

open Cert.KernelIdeal Cert.KernelIdeal.Gen Cert.Softmax Idealize.ShloMosaic

/-- Row `h` of the new token's keys or values. -/
abbrev rowOf (x : Vec Ideal S1x16x128 .bf16) (h : Fin 16) : Fin 128 → EReal := fun d => x (ix3 0 h d)

section
variable (x : Vec Ideal S1x16x128 .bf16) (h : Fin 16) (d : Fin 128)

theorem pay4_apply : k0_pay4 x (ix2 h 0) = qScale (rowOf x h) := by
  unfold_payloads
  pointwise
  rfl

theorem pay7_apply : k0_pay7 x (ix2 h 0) = qScale (rowOf x h) := by
  unfold_payloads
  pointwise
  rfl

theorem pay5_apply : k0_pay5 x (ix2 h d) = qCode (rowOf x h) d := by
  unfold k0_pay5 k0_pay3
  pointwise
  rw [pay4_apply]
  rfl

theorem pay10_apply : k0_pay10 (k0_pay8 x) (k0_pay9 : FVec Ideal S16x128 .f32) (ix2 h d) = qCode (rowOf x h) d := by
  unfold k0_pay10 k0_pay8 k0_pay9 k0_pay6
  pointwise
  rw [pay7_apply]
  rfl

theorem out8_apply : k0_pay11 (k0_pay5 x) (ix3 0 h d) = qCode (rowOf x h) d := by
  rw [← pay5_apply]
  generalize k0_pay5 x = c
  unfold k0_pay11
  pointwise

theorem out9_apply : k0_pay13 (k0_pay4 x) (ix3 0 h 0) = qScale (rowOf x h) := by
  rw [← pay4_apply]
  generalize k0_pay4 x = c
  unfold k0_pay13
  pointwise

theorem out10_apply : k0_pay12 (k0_pay8 x) (k0_pay9 : FVec Ideal S16x128 .f32) (ix3 0 h d) = qCode (rowOf x h) d := by
  rw [← pay10_apply]
  unfold k0_pay12
  generalize k0_pay10 (k0_pay8 x) (k0_pay9 : FVec Ideal S16x128 .f32) = c
  pointwise

theorem out11_apply : k0_pay14 (k0_pay7 x) (ix3 0 h 0) = qScale (rowOf x h) := by
  rw [← pay7_apply]
  generalize k0_pay7 x = c
  unfold k0_pay14
  pointwise

theorem newV_apply : newV x (ix2 h d) = qVal (rowOf x h) d := by
  unfold qVal newV k0_pay15
  rw [← pay7_apply, ← pay10_apply]
  generalize k0_pay7 x = c
  generalize k0_pay10 (k0_pay8 x) (k0_pay9 : FVec Ideal S16x128 .f32) = c'
  pointwise
end

section
variable (x0 : Vec Ideal S1x64x128 .bf16) (x : Vec Ideal S1x16x128 .bf16) (r : Fin 64) (h : Fin 16) (d : Fin 128)

theorem qOf_apply : qOf x0 (ix2 r d) = x0 (ix3 0 r d) := by
  unfold qOf k0_pay31
  pointwise

theorem newRaw_apply : newRaw x0 x (ix2 r h) = dotScale (fun d => x0 (ix3 0 r d)) (qVal (rowOf x h)) := by
  unfold newRaw k0_pay16 dotScale qVal
  simp only [← pay4_apply, ← pay5_apply, ← qOf_apply]
  generalize k0_pay4 x = c
  generalize k0_pay5 x = c'
  generalize qOf x0 = q
  pointwise

theorem newScores_apply : newScores x0 x (ix2 r h)
    = if (⟨r.val / 4, by omega⟩ : Fin 16) = h then dotScale (fun d => x0 (ix3 0 r d)) (qVal (rowOf x h)) else ⊥ := by
  rw [← newRaw_apply]
  unfold newScores
  generalize newRaw x0 x = c
  unfold k0_pay19 k0_pay17 k0_pay18 rows64x16
  pointwise
  refine (congrArg (fun b : BitVec 1 => Scalar.select b (c (ix2 r h)) (Ideal.ofBits FTy.f32 4286578688#32))
    (?_ : _ = if (⟨r.val / 4, by omega⟩ : Fin 16) = h then 1#1 else 0#1)).trans ?_
  · revert r h
    decide +kernel
  · rw [negInf_eq]
    split <;> rfl
end

theorem finish_apply (x0 : Vec Ideal S1x64x128 .bf16) (x1 x2 : Vec Ideal S1x16x128 .bf16) (M L : FVec Ideal S64x1 .f32)
    (A : FVec Ideal S64x256 .f32) (r : Fin 64) (d : Fin 128) (sn : EReal)
    (hsn : sn = dotScale (fun d => x0 (ix3 0 r d)) (qVal (rowOf x1 ⟨r.val / 4, by omega⟩))) :
    k0_pay2 (finish x0 x1 x2 M L A) (ix3 0 r d)
      = Ideal.div (A (ix2 r ⟨128 * (r.val / 16 % 2) + d.val, by omega⟩) * Ideal.exp (M (ix2 r 0) - max (M (ix2 r 0)) sn)
          + Ideal.exp (sn - max (M (ix2 r 0)) sn) * qVal (rowOf x2 ⟨r.val / 4, by omega⟩) d)
        (L (ix2 r 0) * Ideal.exp (M (ix2 r 0) - max (M (ix2 r 0)) sn) + Ideal.exp (sn - max (M (ix2 r 0)) sn)) := by
  have hs : ∀ h : Fin 16, k0_pay19 (newRaw x0 x1) rows64x16 (4#32) k0_pay17 k0_pay18 (1#32) (0#32) (ix2 r h)
      = if (⟨r.val / 4, by omega⟩ : Fin 16) = h then sn else ⊥ := by
    rw [hsn]
    intro h
    refine (newScores_apply x0 x1 r h).trans ?_
    by_cases hh : (⟨r.val / 4, by omega⟩ : Fin 16) = h
    · subst hh
      rfl
    · rw [if_neg hh, if_neg hh]
  have hV : ∀ h : Fin 16, newV x2 (ix2 h d) = qVal (rowOf x2 h) d := fun h => newV_apply x2 h d
  rw [← hV]
  unfold finish k0_pay27 k0_pay24 k0_pay23 k0_pay22 k0_pay21 k0_pay20 k0_pay2
  clear hV hsn
  revert hs
  generalize newV x2 = V
  generalize k0_pay19 (newRaw x0 x1) rows64x16 (4#32) k0_pay17 k0_pay18 (1#32) (0#32) = s
  intro hs
  unfold k0_pay25 k0_pay26
  pointwise
  rw [negInf_eq, single_fold _ sn _ hs, single_sum _ sn _ hs, single_sum_one _ sn _ hs]
  refine congrArg (fun a => Ideal.div (a * _ + _) _) ?_
  refine (congrArg (fun b : BitVec 1 => Scalar.select b (A (ix2 r ⟨128 + d.val, by omega⟩)) (A (ix2 r ⟨d.val, by omega⟩)))
    (?_ : _ = if r.val / 16 % 2 = 1 then 1#1 else 0#1)).trans ?_
  · clear hs
    revert r
    decide +kernel
  · rcases Nat.mod_two_eq_zero_or_one (r.val / 16) with h | h
    · rw [if_neg (by omega)]
      refine congrArg A (congrArg (ix2 r) (Fin.ext ?_))
      show d.val = 128 * (r.val / 16 % 2) + d.val
      omega
    · rw [if_pos h]
      refine congrArg A (congrArg (ix2 r) (Fin.ext ?_))
      show 128 + d.val = 128 * (r.val / 16 % 2) + d.val
      omega

end Cert.KernelIdeal.Hand
-- ==== Proof.Reads.lean ====
module

public import proofs.«01_k».proof.Proof.Quant

@[expose] public section

set_option maxRecDepth 16384

noncomputable section

namespace Cert.KernelIdeal.Hand

open Cert.KernelIdeal Cert.KernelIdeal.Gen Cert.Softmax Idealize.ShloMosaic

/-! ## What the two halves of a tile leave, read at a row -/

theorem emb_lo64 (R : Fin 32) : lo64.emb (ix2 R 0) = (ix2 ⟨32 * 0 + R.val, by omega⟩ 0 : S64x1.Idx) := by
  funext a
  apply Fin.ext
  match a with
  | ⟨0, _⟩ => show 0 + 1 * R.val = 32 * 0 + R.val; omega
  | ⟨1, _⟩ => rfl

theorem emb_hi64 (R : Fin 32) : hi64.emb (ix2 R 0) = (ix2 ⟨32 * 1 + R.val, by omega⟩ 0 : S64x1.Idx) := by
  funext a
  apply Fin.ext
  match a with
  | ⟨0, _⟩ => show 32 + 1 * R.val = 32 * 1 + R.val; omega
  | ⟨1, _⟩ => rfl

theorem emb_lo256 (R : Fin 32) (k : Fin 256) : lo256.emb (ix2 R k) = (ix2 ⟨32 * 0 + R.val, by omega⟩ k : S64x256.Idx) := by
  funext a
  apply Fin.ext
  match a with
  | ⟨0, _⟩ => show 0 + 1 * R.val = 32 * 0 + R.val; omega
  | ⟨1, _⟩ => show 0 + 1 * k.val = k.val; omega

theorem emb_hi256 (R : Fin 32) (k : Fin 256) : hi256.emb (ix2 R k) = (ix2 ⟨32 * 1 + R.val, by omega⟩ k : S64x256.Idx) := by
  funext a
  apply Fin.ext
  match a with
  | ⟨0, _⟩ => show 32 + 1 * R.val = 32 * 1 + R.val; omega
  | ⟨1, _⟩ => show 0 + 1 * k.val = k.val; omega

theorem not_hi64 (R : Fin 32) : (ix2 ⟨32 * 0 + R.val, by omega⟩ 0 : S64x1.Idx) ∉ hi64.set := by
  intro hy
  have h : 32 ≤ 32 * 0 + R.val := (Rect.mem_set_unit.mp hy 0).1
  omega

theorem not_hi256 (R : Fin 32) (k : Fin 256) : (ix2 ⟨32 * 0 + R.val, by omega⟩ k : S64x256.Idx) ∉ hi256.set := by
  intro hy
  have h : 32 ≤ 32 * 0 + R.val := (Rect.mem_set_unit.mp hy 0).1
  omega

section canon
variable (w w' : Vec Ideal S32x1 .f32) (v v' : Vec Ideal S32x256 .f32)
  (E : List (View.Piece (Elt Ideal) S64x1 .f32)) (E' : List (View.Piece (Elt Ideal) S64x256 .f32)) (R : Fin 32) (k : Fin 256)

theorem canon_hi64 : View.canon (Val := Elt Ideal) (e := .f32) (⟨hi64, w⟩ :: ⟨lo64, w'⟩ :: E) (ix2 ⟨32 * 1 + R.val, by omega⟩ 0) = w (ix2 R 0) := by
  rw [← emb_hi64 R]
  exact View.canon_cons_emb (Val := Elt Ideal) (e := .f32) hi64 w _ (ix2 R 0)

theorem canon_lo64 : View.canon (Val := Elt Ideal) (e := .f32) (⟨hi64, w⟩ :: ⟨lo64, w'⟩ :: E) (ix2 ⟨32 * 0 + R.val, by omega⟩ 0) = w' (ix2 R 0) := by
  rw [View.canon_cons_of_not_mem (⟨hi64, w⟩ : View.Piece (Elt Ideal) S64x1 .f32) (⟨lo64, w'⟩ :: E) (not_hi64 R), ← emb_lo64 R]
  exact View.canon_cons_emb (Val := Elt Ideal) (e := .f32) lo64 w' E (ix2 R 0)

theorem canon_hi256 : View.canon (Val := Elt Ideal) (e := .f32) (⟨hi256, v⟩ :: ⟨lo256, v'⟩ :: E') (ix2 ⟨32 * 1 + R.val, by omega⟩ k) = v (ix2 R k) := by
  rw [← emb_hi256 R]
  exact View.canon_cons_emb (Val := Elt Ideal) (e := .f32) hi256 v _ (ix2 R k)

theorem canon_lo256 : View.canon (Val := Elt Ideal) (e := .f32) (⟨hi256, v⟩ :: ⟨lo256, v'⟩ :: E') (ix2 ⟨32 * 0 + R.val, by omega⟩ k) = v' (ix2 R k) := by
  rw [View.canon_cons_of_not_mem (⟨hi256, v⟩ : View.Piece (Elt Ideal) S64x256 .f32) (⟨lo256, v'⟩ :: E') (not_hi256 R k), ← emb_lo256 R]
  exact View.canon_cons_emb (Val := Elt Ideal) (e := .f32) lo256 v' E' (ix2 R k)

variable (M : Vec Ideal S64x1 .f32) (A : Vec Ideal S64x256 .f32)

theorem ld_lo64 : View.ld (Val := Elt Ideal) (e' := .f32) M lo64 (ix2 R 0) = M (ix2 ⟨32 * 0 + R.val, by omega⟩ 0) := congrArg M (emb_lo64 R)
theorem ld_hi64 : View.ld (Val := Elt Ideal) (e' := .f32) M hi64 (ix2 R 0) = M (ix2 ⟨32 * 1 + R.val, by omega⟩ 0) := congrArg M (emb_hi64 R)
theorem ld_lo256 : View.ld (Val := Elt Ideal) (e' := .f32) A lo256 (ix2 R k) = A (ix2 ⟨32 * 0 + R.val, by omega⟩ k) := congrArg A (emb_lo256 R k)
theorem ld_hi256 : View.ld (Val := Elt Ideal) (e' := .f32) A hi256 (ix2 R k) = A (ix2 ⟨32 * 1 + R.val, by omega⟩ k) := congrArg A (emb_hi256 R k)
end canon

theorem pay158_eq (x : FVec Ideal S32x4096 .f32) (y : FVec Ideal S32x1 .f32) : k0_pay158 x y = k0_pay154 x y := by
  unfold k0_pay158
  exact shapeCast_self _ _

theorem initM_apply (r : Fin 64) : (initM : Vec Ideal S64x1 .f32) (ix2 r 0) = ⊥ := by
  unfold initM k0_pay28
  pointwise
  exact negInf_eq

theorem initL_apply (r : Fin 64) : (initL : Vec Ideal S64x1 .f32) (ix2 r 0) = 0 := by
  unfold initL k0_pay29
  pointwise

theorem initAcc_apply (r : Fin 64) (k : Fin 256) : (initAcc : Vec Ideal S64x256 .f32) (ix2 r k) = 0 := by
  unfold initAcc k0_pay30
  pointwise

theorem sOf_apply (x : Vec Ideal S1x16x1024 .f32) (h : Fin 16) (T : Fin 1024) : sOf x (ix2 h T) = x (ix3 0 h T) := by
  unfold sOf k0_pay34
  pointwise

/-- What the carried buffers hold after `n` tokens, at every row: the running maximum, the running sum of weights, and the
    running weighted sum in the half of the columns that is the row's. -/
structure Holds (S : Fin 64 → ℕ → EReal) (W : Fin 64 → Fin 128 → ℕ → EReal) (n : ℕ)
    (M L : Vec Ideal S64x1 .f32) (A : Vec Ideal S64x256 .f32) : Prop where
  max : ∀ r : Fin 64, M (ix2 r 0) = maxTo (S r) n
  den : ∀ r : Fin 64, L (ix2 r 0) = denTo (S r) n
  num : ∀ (r : Fin 64) (d : Fin 128), A (ix2 r ⟨128 * (r.val / 16 % 2) + d.val, by omega⟩) = numTo (S r) (W r d) n

theorem holds_init (S : Fin 64 → ℕ → EReal) (W : Fin 64 → Fin 128 → ℕ → EReal) : Holds S W 0 (initM (F := Ideal)) (initL (F := Ideal)) (initAcc (F := Ideal)) :=
  ⟨fun r => (initM_apply r).trans (maxTo_zero _).symm, fun r => (initL_apply r).trans (denTo_zero _).symm,
   fun r _ => (initAcc_apply r _).trans (numTo_zero _ _).symm⟩

theorem row_cases {P : Fin 64 → Prop} (h0 : ∀ R : Fin 32, P ⟨32 * 0 + R.val, by omega⟩) (h1 : ∀ R : Fin 32, P ⟨32 * 1 + R.val, by omega⟩) :
    ∀ r, P r := by
  intro r
  by_cases h : r.val < 32
  · have e : r = ⟨32 * 0 + (⟨r.val, h⟩ : Fin 32).val, by omega⟩ := Fin.ext (by dsimp only; omega)
    rw [e]
    exact h0 _
  · have e : r = ⟨32 * 1 + (⟨r.val - 32, by omega⟩ : Fin 32).val, by dsimp only; omega⟩ := Fin.ext (by dsimp only; omega)
    rw [e]
    exact h1 _

section holds
variable (x0 : Vec Ideal S1x64x128 .bf16) (x3 : Vec Ideal S1x16384x128 .i8) (x4 : Vec Ideal S1x16x1024 .f32)
  (x5 : Vec Ideal S1x16384x128 .i8) (x6 : Vec Ideal S1x16x1024 .f32)
  (S : Fin 64 → ℕ → EReal) (W : Fin 64 → Fin 128 → ℕ → EReal) (n : ℕ)
  (M L : Vec Ideal S64x1 .f32) (A : Vec Ideal S64x256 .f32)
  (E0 E1 : List (View.Piece (Elt Ideal) S64x1 .f32)) (E2 : List (View.Piece (Elt Ideal) S64x256 .f32))

/-- One tile carries the three buffers from `n` tokens to `n + 1024`. -/
theorem holds_step (hS : ∀ r T, score (qOf x0) x3 (sOf x4) r T = S r (n + T.val))
    (hW : ∀ (r : Fin 64) (d : Fin 128) (T : Fin 1024), dq x5 (sOf x6) T ⟨r.val / 4, by omega⟩ d = W r d (n + T.val)) (H : Holds S W n M L A) :
    Holds S W (n + 1024)
      (View.canon (newM x0 x3 x4 (View.ld (Val := Elt Ideal) (e' := .f32) M lo64) (View.ld (Val := Elt Ideal) (e' := .f32) M hi64) ++ E0))
      (View.canon (newL x0 x3 x4 (View.ld (Val := Elt Ideal) (e' := .f32) M lo64) (View.ld (Val := Elt Ideal) (e' := .f32) M hi64)
        (View.ld (Val := Elt Ideal) (e' := .f32) L lo64) (View.ld (Val := Elt Ideal) (e' := .f32) L hi64) ++ E1))
      (View.canon (newAcc x0 x3 x4 x5 x6 (View.ld (Val := Elt Ideal) (e' := .f32) M lo64) (View.ld (Val := Elt Ideal) (e' := .f32) M hi64)
        (View.ld (Val := Elt Ideal) (e' := .f32) A lo256) (View.ld (Val := Elt Ideal) (e' := .f32) A hi256) ++ E2)) := by
  have hm0 : ∀ R : Fin 32, View.ld (Val := Elt Ideal) (e' := .f32) M lo64 (ix2 R 0) = maxTo (S ⟨32 * 0 + R.val, by omega⟩) n :=
    fun R => (ld_lo64 R M).trans (H.max _)
  have hm1 : ∀ R : Fin 32, View.ld (Val := Elt Ideal) (e' := .f32) M hi64 (ix2 R 0) = maxTo (S ⟨32 * 1 + R.val, by omega⟩) n :=
    fun R => (ld_hi64 R M).trans (H.max _)
  refine ⟨row_cases (fun R => ?_) (fun R => ?_), row_cases (fun R => ?_) (fun R => ?_),
    row_cases (fun R d => ?_) (fun R d => ?_)⟩
  · refine (canon_lo64 _ _ _ R).trans ?_
    rw [pay158_eq]
    exact step_m _ _ _ 0 _ _ R _ n (fun T => hS _ T) (hm0 R)
  · refine (canon_hi64 _ _ _ R).trans ?_
    rw [pay158_eq]
    exact step_m _ _ _ 1 _ _ R _ n (fun T => hS _ T) (hm1 R)
  · refine (canon_lo64 _ _ _ R).trans ?_
    exact step_l _ _ _ 0 _ _ _ R _ n (fun T => hS _ T) (hm0 R) ((ld_lo64 R L).trans (H.den _))
  · refine (canon_hi64 _ _ _ R).trans ?_
    exact step_l _ _ _ 1 _ _ _ R _ n (fun T => hS _ T) (hm1 R) ((ld_hi64 R L).trans (H.den _))
  · have e : (⟨128 * ((32 * 0 + R.val) / 16 % 2) + d.val, by omega⟩ : Fin 256) = ⟨128 * (R.val / 16) + d.val, by omega⟩ :=
      Fin.ext (by dsimp only; omega)
    have ha := H.num ⟨32 * 0 + R.val, by omega⟩ d
    dsimp only at ha ⊢
    rw [e] at ha ⊢
    refine (canon_lo256 _ _ _ R _).trans ?_
    exact step_acc _ _ _ _ _ 0 _ _ _ R (S ⟨32 * 0 + R.val, by omega⟩) n (fun T => hS ⟨32 * 0 + R.val, by omega⟩ T) (hm0 R)
      (W ⟨32 * 0 + R.val, by omega⟩ d) d (fun T => hW ⟨32 * 0 + R.val, by omega⟩ d T) ((ld_lo256 R _ A).trans ha)
  · have e : (⟨128 * ((32 * 1 + R.val) / 16 % 2) + d.val, by omega⟩ : Fin 256) = ⟨128 * (R.val / 16) + d.val, by omega⟩ :=
      Fin.ext (by dsimp only; omega)
    have ha := H.num ⟨32 * 1 + R.val, by omega⟩ d
    dsimp only at ha ⊢
    rw [e] at ha ⊢
    refine (canon_hi256 _ _ _ R _).trans ?_
    exact step_acc _ _ _ _ _ 1 _ _ _ R (S ⟨32 * 1 + R.val, by omega⟩) n (fun T => hS ⟨32 * 1 + R.val, by omega⟩ T) (hm1 R)
      (W ⟨32 * 1 + R.val, by omega⟩ d) d (fun T => hW ⟨32 * 1 + R.val, by omega⟩ d T) ((ld_hi256 R _ A).trans ha)
end holds

end Cert.KernelIdeal.Hand
-- ==== Proof.KBlocks.lean ====
module

public import proofs.«01_k».proof.Proof.Quant

@[expose] public section

set_option maxRecDepth 16384

noncomputable section

namespace Cert.KernelIdeal.Hand

open Cert.KernelIdeal Cert.KernelIdeal.Gen Cert.KernelIdeal.Value Cert.Softmax Idealize.ShloMosaic Idealize.ShloMosaic.TcCoe

/-! ## The blocks a grid point reads, in terms of the arguments -/

variable (m : (ℓ : Loc nD τ sig) → Buf (Elt Ideal) ℓ) (c : Dev nD)

abbrev a0 : Vec Ideal S4x1x8192 .bf16 := m ((c : Thread nD τ).loc main_arg0)
abbrev a1 : Vec Ideal S4x1x16x128 .bf16 := m ((c : Thread nD τ).loc main_arg1)
abbrev a2 : Vec Ideal S4x1x16x128 .bf16 := m ((c : Thread nD τ).loc main_arg2)
abbrev a3 : Vec Ideal S4x32768x16x128 .i8 := m ((c : Thread nD τ).loc main_arg3)
abbrev a4 : Vec Ideal S4x32768x16 .f32 := m ((c : Thread nD τ).loc main_arg4)
abbrev a5 : Vec Ideal S4x32768x16x128 .i8 := m ((c : Thread nD τ).loc main_arg5)
abbrev a6 : Vec Ideal S4x32768x16 .f32 := m ((c : Thread nD τ).loc main_arg6)

theorem V_v0 : V m c main_v0 = shapeCast S4x64x128 (a0 m c) shapeCasts_S4x1x8192_S4x64x128 := by
  show StableHlo.after hostOps0 _ (Proc.devRef .tc main_v0) = _
  after_results
  rfl
theorem V_v1 : V m c main_v1 = shapeCast S4x16x128 (a1 m c) shapeCasts_S4x1x16x128_S4x16x128 := by
  show StableHlo.after hostOps0 _ (Proc.devRef .tc main_v1) = _
  after_results
  rfl
theorem V_v2 : V m c main_v2 = shapeCast S4x16x128 (a2 m c) shapeCasts_S4x1x16x128_S4x16x128 := by
  show StableHlo.after hostOps0 _ (Proc.devRef .tc main_v2) = _
  after_results
  rfl
theorem V_v3 : V m c main_v3 = shapeCast S4x524288x128 (a3 m c) shapeCasts_S4x32768x16x128_S4x524288x128 := by
  show StableHlo.after hostOps0 _ (Proc.devRef .tc main_v3) = _
  after_results
  rfl
theorem V_v4 : V m c main_v4 = shapeCast S4x524288x128 (a5 m c) shapeCasts_S4x32768x16x128_S4x524288x128 := by
  show StableHlo.after hostOps0 _ (Proc.devRef .tc main_v4) = _
  after_results
  rfl
theorem V_v5 : V m c main_v5 = transpose S4x16x32768 [0, 2, 1] (a4 m c) transposes_S4x32768x16_S4x16x32768_0_2_1 := by
  show StableHlo.after hostOps0 _ (Proc.devRef .tc main_v5) = _
  after_results
theorem V_v6 : V m c main_v6 = transpose S4x16x32768 [0, 2, 1] (a6 m c) transposes_S4x32768x16_S4x16x32768_0_2_1 := by
  show StableHlo.after hostOps0 _ (Proc.devRef .tc main_v6) = _
  after_results

section host
variable (b : Fin 4) (r : Fin 64) (h : Fin 16) (d : Fin 128) (T : Fin 32768)

theorem host0 (x : Vec Ideal S4x1x8192 .bf16) : shapeCast S4x64x128 x shapeCasts_S4x1x8192_S4x64x128 (ix3 b r d)
    = x (ix3 b 0 ⟨128 * r.val + d.val, by omega⟩) := by
  pointwise
  exact congrArg (fun k => x (ix3 b 0 k)) (Fin.ext (by dsimp only; omega))
theorem host1 (x : Vec Ideal S4x1x16x128 .bf16) : shapeCast S4x16x128 x shapeCasts_S4x1x16x128_S4x16x128 (ix3 b h d) = x (ix4 b 0 h d) := by
  pointwise
theorem host3 (x : Vec Ideal S4x32768x16x128 .i8) : shapeCast S4x524288x128 x shapeCasts_S4x32768x16x128_S4x524288x128 (ix3 b ⟨16 * T.val + h.val, by omega⟩ d)
    = x (ix4 b T h d) := by
  pointwise
theorem host4 (x : Vec Ideal S4x32768x16 .f32) : transpose S4x16x32768 [0, 2, 1] x transposes_S4x32768x16_S4x16x32768_0_2_1 (ix3 b h T)
    = x (ix3 b T h) := by
  pointwise
end host

section blocks
variable (t : Fin cfg0.N) (b : Fin 4) (j : Fin 32) (ht : t.val = 32 * b.val + j.val) (r : Fin 64) (h : Fin 16) (d : Fin 128) (T : Fin 1024)
include ht

theorem iblk0_apply : iblk m c 0 t (ix3 0 r d) = a0 m c (ix3 b 0 ⟨128 * r.val + d.val, by omega⟩) := by
  have hi : win0_0.index t 0 = t.val / 32 ∧ win0_0.index t 1 = 0 ∧ win0_0.index t 2 = 0 := by
    clear ht
    revert t
    exact (by decide +kernel : ∀ t : Fin grid0.N, win0_0.index t 0 = t.val / 32 ∧ win0_0.index t 1 = 0 ∧ win0_0.index t 2 = 0)
  refine Eq.trans ?_ ((congrFun (V_v0 m c) _).trans (host0 b r d (a0 m c)))
  unfold iblk
  rw [View.read_apply]
  show V m c main_v0 _ = _
  congr 1
  funext a
  apply Fin.ext
  match a with
  | ⟨0, _⟩ => show win0_0.index t 0 * 1 + 1 * 0 = b.val; rw [hi.1]; omega
  | ⟨1, _⟩ => show win0_0.index t 1 * 64 + 1 * r.val = r.val; rw [hi.2.1]; omega
  | ⟨2, _⟩ => show win0_0.index t 2 * 128 + 1 * d.val = d.val; rw [hi.2.2]; omega

theorem iblk1_apply : iblk m c 1 t (ix3 0 h d) = a1 m c (ix4 b 0 h d) := by
  have hi : win0_1.index t 0 = t.val / 32 ∧ win0_1.index t 1 = 0 ∧ win0_1.index t 2 = 0 := by
    clear ht
    revert t
    exact (by decide +kernel : ∀ t : Fin grid0.N, win0_1.index t 0 = t.val / 32 ∧ win0_1.index t 1 = 0 ∧ win0_1.index t 2 = 0)
  refine Eq.trans ?_ ((congrFun (V_v1 m c) _).trans (host1 b h d (a1 m c)))
  unfold iblk
  rw [View.read_apply]
  show V m c main_v1 _ = _
  congr 1
  funext a
  apply Fin.ext
  match a with
  | ⟨0, _⟩ => show win0_1.index t 0 * 1 + 1 * 0 = b.val; rw [hi.1]; omega
  | ⟨1, _⟩ => show win0_1.index t 1 * 16 + 1 * h.val = h.val; rw [hi.2.1]; omega
  | ⟨2, _⟩ => show win0_1.index t 2 * 128 + 1 * d.val = d.val; rw [hi.2.2]; omega

theorem iblk2_apply : iblk m c 2 t (ix3 0 h d) = a2 m c (ix4 b 0 h d) := by
  have hi : win0_2.index t 0 = t.val / 32 ∧ win0_2.index t 1 = 0 ∧ win0_2.index t 2 = 0 := by
    clear ht
    revert t
    exact (by decide +kernel : ∀ t : Fin grid0.N, win0_2.index t 0 = t.val / 32 ∧ win0_2.index t 1 = 0 ∧ win0_2.index t 2 = 0)
  refine Eq.trans ?_ ((congrFun (V_v2 m c) _).trans (host1 b h d (a2 m c)))
  unfold iblk
  rw [View.read_apply]
  show V m c main_v2 _ = _
  congr 1
  funext a
  apply Fin.ext
  match a with
  | ⟨0, _⟩ => show win0_2.index t 0 * 1 + 1 * 0 = b.val; rw [hi.1]; omega
  | ⟨1, _⟩ => show win0_2.index t 1 * 16 + 1 * h.val = h.val; rw [hi.2.1]; omega
  | ⟨2, _⟩ => show win0_2.index t 2 * 128 + 1 * d.val = d.val; rw [hi.2.2]; omega

theorem iblk3_apply : iblk m c 3 t (ix3 0 ⟨16 * T.val + h.val, by omega⟩ d) = a3 m c (ix4 b ⟨1024 * j.val + T.val, by omega⟩ h d) := by
  have hi : win0_3.index t 0 = t.val / 32 ∧ win0_3.index t 1 = t.val % 32 ∧ win0_3.index t 2 = 0 := by
    clear ht
    revert t
    exact (by decide +kernel : ∀ t : Fin grid0.N, win0_3.index t 0 = t.val / 32 ∧ win0_3.index t 1 = t.val % 32 ∧ win0_3.index t 2 = 0)
  refine Eq.trans ?_ ((congrFun (V_v3 m c) _).trans (host3 b h d ⟨1024 * j.val + T.val, by omega⟩ (a3 m c)))
  unfold iblk
  rw [View.read_apply]
  show V m c main_v3 _ = _
  congr 1
  funext a
  apply Fin.ext
  match a with
  | ⟨0, _⟩ => show win0_3.index t 0 * 1 + 1 * 0 = b.val; rw [hi.1]; omega
  | ⟨1, _⟩ => show win0_3.index t 1 * 16384 + 1 * (16 * T.val + h.val) = 16 * (1024 * j.val + T.val) + h.val; rw [hi.2.1]; omega
  | ⟨2, _⟩ => show win0_3.index t 2 * 128 + 1 * d.val = d.val; rw [hi.2.2]; omega

theorem iblk5_apply : iblk m c 5 t (ix3 0 ⟨16 * T.val + h.val, by omega⟩ d) = a5 m c (ix4 b ⟨1024 * j.val + T.val, by omega⟩ h d) := by
  have hi : win0_5.index t 0 = t.val / 32 ∧ win0_5.index t 1 = t.val % 32 ∧ win0_5.index t 2 = 0 := by
    clear ht
    revert t
    exact (by decide +kernel : ∀ t : Fin grid0.N, win0_5.index t 0 = t.val / 32 ∧ win0_5.index t 1 = t.val % 32 ∧ win0_5.index t 2 = 0)
  refine Eq.trans ?_ ((congrFun (V_v4 m c) _).trans (host3 b h d ⟨1024 * j.val + T.val, by omega⟩ (a5 m c)))
  unfold iblk
  rw [View.read_apply]
  show V m c main_v4 _ = _
  congr 1
  funext a
  apply Fin.ext
  match a with
  | ⟨0, _⟩ => show win0_5.index t 0 * 1 + 1 * 0 = b.val; rw [hi.1]; omega
  | ⟨1, _⟩ => show win0_5.index t 1 * 16384 + 1 * (16 * T.val + h.val) = 16 * (1024 * j.val + T.val) + h.val; rw [hi.2.1]; omega
  | ⟨2, _⟩ => show win0_5.index t 2 * 128 + 1 * d.val = d.val; rw [hi.2.2]; omega

theorem iblk4_apply : iblk m c 4 t (ix3 0 h T) = a4 m c (ix3 b ⟨1024 * j.val + T.val, by omega⟩ h) := by
  have hi : win0_4.index t 0 = t.val / 32 ∧ win0_4.index t 1 = 0 ∧ win0_4.index t 2 = t.val % 32 := by
    clear ht
    revert t
    exact (by decide +kernel : ∀ t : Fin grid0.N, win0_4.index t 0 = t.val / 32 ∧ win0_4.index t 1 = 0 ∧ win0_4.index t 2 = t.val % 32)
  refine Eq.trans ?_ ((congrFun (V_v5 m c) _).trans (host4 b h ⟨1024 * j.val + T.val, by omega⟩ (a4 m c)))
  unfold iblk
  rw [View.read_apply]
  show V m c main_v5 _ = _
  congr 1
  funext a
  apply Fin.ext
  match a with
  | ⟨0, _⟩ => show win0_4.index t 0 * 1 + 1 * 0 = b.val; rw [hi.1]; omega
  | ⟨1, _⟩ => show win0_4.index t 1 * 16 + 1 * h.val = h.val; rw [hi.2.1]; omega
  | ⟨2, _⟩ => show win0_4.index t 2 * 1024 + 1 * T.val = 1024 * j.val + T.val; rw [hi.2.2]; omega

theorem iblk6_apply : iblk m c 6 t (ix3 0 h T) = a6 m c (ix3 b ⟨1024 * j.val + T.val, by omega⟩ h) := by
  have hi : win0_6.index t 0 = t.val / 32 ∧ win0_6.index t 1 = 0 ∧ win0_6.index t 2 = t.val % 32 := by
    clear ht
    revert t
    exact (by decide +kernel : ∀ t : Fin grid0.N, win0_6.index t 0 = t.val / 32 ∧ win0_6.index t 1 = 0 ∧ win0_6.index t 2 = t.val % 32)
  refine Eq.trans ?_ ((congrFun (V_v6 m c) _).trans (host4 b h ⟨1024 * j.val + T.val, by omega⟩ (a6 m c)))
  unfold iblk
  rw [View.read_apply]
  show V m c main_v6 _ = _
  congr 1
  funext a
  apply Fin.ext
  match a with
  | ⟨0, _⟩ => show win0_6.index t 0 * 1 + 1 * 0 = b.val; rw [hi.1]; omega
  | ⟨1, _⟩ => show win0_6.index t 1 * 16 + 1 * h.val = h.val; rw [hi.2.1]; omega
  | ⟨2, _⟩ => show win0_6.index t 2 * 1024 + 1 * T.val = 1024 * j.val + T.val; rw [hi.2.2]; omega
end blocks

end Cert.KernelIdeal.Hand
-- ==== Proof.Invariant.lean ====
module

public import proofs.«01_k».proof.Proof.Reads
public import proofs.«01_k».proof.Proof.KBlocks

@[expose] public section

set_option maxRecDepth 16384

noncomputable section

namespace Cert.KernelIdeal.Hand

open Cert.KernelIdeal Cert.KernelIdeal.Gen Cert.KernelIdeal.Value Cert.Softmax Idealize.ShloMosaic Idealize.ShloMosaic.TcCoe

variable (m : (ℓ : Loc nD τ sig) → Buf (Elt Ideal) ℓ) (c : Dev nD)

section caseA
variable (t : Fin cfg0.N) (h0 : t.val % 32 = 0) (h1 : ¬t.val % 32 = 31)
include h0 h1

theorem outs_m_A : (outsAt0 m c t.val t.isLt).2.2.2.2.2.1 = View.canon (Val := Elt Ideal) (e := .f32)
    (newM (iblk m c 0 t) (iblk m c 3 t) (iblk m c 4 t) (View.ld (Val := Elt Ideal) (e' := .f32) initM lo64) (View.ld (Val := Elt Ideal) (e' := .f32) initM hi64) ++ [⟨all64, initM⟩]) := by
  rw [outsAt0_A m c t h0 h1]
  dsimp only
  rw [m_A]

theorem outs_l_A : (outsAt0 m c t.val t.isLt).2.2.2.2.2.2.1 = View.canon (Val := Elt Ideal) (e := .f32)
    (newL (iblk m c 0 t) (iblk m c 3 t) (iblk m c 4 t) (View.ld (Val := Elt Ideal) (e' := .f32) initM lo64) (View.ld (Val := Elt Ideal) (e' := .f32) initM hi64) (View.ld (Val := Elt Ideal) (e' := .f32) initL lo64) (View.ld (Val := Elt Ideal) (e' := .f32) initL hi64) ++ [⟨all64, initL⟩]) := by
  rw [outsAt0_A m c t h0 h1]
  dsimp only
  rw [l_A]

theorem outs_acc_A : (outsAt0 m c t.val t.isLt).2.2.2.2.2.2.2 = View.canon (Val := Elt Ideal) (e := .f32)
    (newAcc (iblk m c 0 t) (iblk m c 3 t) (iblk m c 4 t) (iblk m c 5 t) (iblk m c 6 t) (View.ld (Val := Elt Ideal) (e' := .f32) initM lo64) (View.ld (Val := Elt Ideal) (e' := .f32) initM hi64) (View.ld (Val := Elt Ideal) (e' := .f32) initAcc lo256) (View.ld (Val := Elt Ideal) (e' := .f32) initAcc hi256) ++ [⟨all256, initAcc⟩]) := by
  rw [outsAt0_A m c t h0 h1]
  dsimp only
  rw [acc_A]

end caseA

section caseB
variable (t : Fin cfg0.N) (h0 : ¬t.val % 32 = 0) (h1 : ¬t.val % 32 = 31)
include h0 h1

theorem outs_m_B : (outsAt0 m c t.val t.isLt).2.2.2.2.2.1 = View.canon (Val := Elt Ideal) (e := .f32)
    (newM (iblk m c 0 t) (iblk m c 3 t) (iblk m c 4 t) (View.ld (Val := Elt Ideal) (e' := .f32) (outsAt0 m c (t.val - 1) (Nat.lt_of_le_of_lt (Nat.sub_le _ _) t.isLt)).2.2.2.2.2.1 lo64) (View.ld (Val := Elt Ideal) (e' := .f32) (outsAt0 m c (t.val - 1) (Nat.lt_of_le_of_lt (Nat.sub_le _ _) t.isLt)).2.2.2.2.2.1 hi64)) := by
  rw [outsAt0_B m c t h0 h1]
  dsimp only
  rw [m_B]

theorem outs_l_B : (outsAt0 m c t.val t.isLt).2.2.2.2.2.2.1 = View.canon (Val := Elt Ideal) (e := .f32)
    (newL (iblk m c 0 t) (iblk m c 3 t) (iblk m c 4 t) (View.ld (Val := Elt Ideal) (e' := .f32) (outsAt0 m c (t.val - 1) (Nat.lt_of_le_of_lt (Nat.sub_le _ _) t.isLt)).2.2.2.2.2.1 lo64) (View.ld (Val := Elt Ideal) (e' := .f32) (outsAt0 m c (t.val - 1) (Nat.lt_of_le_of_lt (Nat.sub_le _ _) t.isLt)).2.2.2.2.2.1 hi64) (View.ld (Val := Elt Ideal) (e' := .f32) (outsAt0 m c (t.val - 1) (Nat.lt_of_le_of_lt (Nat.sub_le _ _) t.isLt)).2.2.2.2.2.2.1 lo64) (View.ld (Val := Elt Ideal) (e' := .f32) (outsAt0 m c (t.val - 1) (Nat.lt_of_le_of_lt (Nat.sub_le _ _) t.isLt)).2.2.2.2.2.2.1 hi64)) := by
  rw [outsAt0_B m c t h0 h1]
  dsimp only
  rw [l_B]

theorem outs_acc_B : (outsAt0 m c t.val t.isLt).2.2.2.2.2.2.2 = View.canon (Val := Elt Ideal) (e := .f32)
    (newAcc (iblk m c 0 t) (iblk m c 3 t) (iblk m c 4 t) (iblk m c 5 t) (iblk m c 6 t) (View.ld (Val := Elt Ideal) (e' := .f32) (outsAt0 m c (t.val - 1) (Nat.lt_of_le_of_lt (Nat.sub_le _ _) t.isLt)).2.2.2.2.2.1 lo64) (View.ld (Val := Elt Ideal) (e' := .f32) (outsAt0 m c (t.val - 1) (Nat.lt_of_le_of_lt (Nat.sub_le _ _) t.isLt)).2.2.2.2.2.1 hi64) (View.ld (Val := Elt Ideal) (e' := .f32) (outsAt0 m c (t.val - 1) (Nat.lt_of_le_of_lt (Nat.sub_le _ _) t.isLt)).2.2.2.2.2.2.2 lo256) (View.ld (Val := Elt Ideal) (e' := .f32) (outsAt0 m c (t.val - 1) (Nat.lt_of_le_of_lt (Nat.sub_le _ _) t.isLt)).2.2.2.2.2.2.2 hi256)) := by
  rw [outsAt0_B m c t h0 h1]
  dsimp only
  rw [acc_B]

end caseB

section caseC
variable (t : Fin cfg0.N) (h0 : ¬t.val % 32 = 0) (h1 : t.val % 32 = 31)
include h0 h1

theorem outs_m_C : (outsAt0 m c t.val t.isLt).2.2.2.2.2.1 = View.canon (Val := Elt Ideal) (e := .f32)
    (newM (iblk m c 0 t) (iblk m c 3 t) (iblk m c 4 t) (View.ld (Val := Elt Ideal) (e' := .f32) (outsAt0 m c (t.val - 1) (Nat.lt_of_le_of_lt (Nat.sub_le _ _) t.isLt)).2.2.2.2.2.1 lo64) (View.ld (Val := Elt Ideal) (e' := .f32) (outsAt0 m c (t.val - 1) (Nat.lt_of_le_of_lt (Nat.sub_le _ _) t.isLt)).2.2.2.2.2.1 hi64)) := by
  rw [outsAt0_C m c t h0 h1]
  dsimp only
  rw [m_C]

theorem outs_l_C : (outsAt0 m c t.val t.isLt).2.2.2.2.2.2.1 = View.canon (Val := Elt Ideal) (e := .f32)
    (newL (iblk m c 0 t) (iblk m c 3 t) (iblk m c 4 t) (View.ld (Val := Elt Ideal) (e' := .f32) (outsAt0 m c (t.val - 1) (Nat.lt_of_le_of_lt (Nat.sub_le _ _) t.isLt)).2.2.2.2.2.1 lo64) (View.ld (Val := Elt Ideal) (e' := .f32) (outsAt0 m c (t.val - 1) (Nat.lt_of_le_of_lt (Nat.sub_le _ _) t.isLt)).2.2.2.2.2.1 hi64) (View.ld (Val := Elt Ideal) (e' := .f32) (outsAt0 m c (t.val - 1) (Nat.lt_of_le_of_lt (Nat.sub_le _ _) t.isLt)).2.2.2.2.2.2.1 lo64) (View.ld (Val := Elt Ideal) (e' := .f32) (outsAt0 m c (t.val - 1) (Nat.lt_of_le_of_lt (Nat.sub_le _ _) t.isLt)).2.2.2.2.2.2.1 hi64)) := by
  rw [outsAt0_C m c t h0 h1]
  dsimp only
  rw [l_C]

theorem outs_acc_C : (outsAt0 m c t.val t.isLt).2.2.2.2.2.2.2 = View.canon (Val := Elt Ideal) (e := .f32)
    (newAcc (iblk m c 0 t) (iblk m c 3 t) (iblk m c 4 t) (iblk m c 5 t) (iblk m c 6 t) (View.ld (Val := Elt Ideal) (e' := .f32) (outsAt0 m c (t.val - 1) (Nat.lt_of_le_of_lt (Nat.sub_le _ _) t.isLt)).2.2.2.2.2.1 lo64) (View.ld (Val := Elt Ideal) (e' := .f32) (outsAt0 m c (t.val - 1) (Nat.lt_of_le_of_lt (Nat.sub_le _ _) t.isLt)).2.2.2.2.2.1 hi64) (View.ld (Val := Elt Ideal) (e' := .f32) (outsAt0 m c (t.val - 1) (Nat.lt_of_le_of_lt (Nat.sub_le _ _) t.isLt)).2.2.2.2.2.2.2 lo256) (View.ld (Val := Elt Ideal) (e' := .f32) (outsAt0 m c (t.val - 1) (Nat.lt_of_le_of_lt (Nat.sub_le _ _) t.isLt)).2.2.2.2.2.2.2 hi256)) := by
  rw [outsAt0_C m c t h0 h1]
  dsimp only
  rw [acc_C]

theorem outs_7 : (outsAt0 m c t.val t.isLt).1 = k0_pay2 (finish (iblk m c 0 t) (iblk m c 1 t) (iblk m c 2 t)
    (outsAt0 m c t.val t.isLt).2.2.2.2.2.1 (outsAt0 m c t.val t.isLt).2.2.2.2.2.2.1 (outsAt0 m c t.val t.isLt).2.2.2.2.2.2.2) := by
  rw [outs_m_C m c t h0 h1, outs_l_C m c t h0 h1, outs_acc_C m c t h0 h1]
  rw [outsAt0_C m c t h0 h1]
  dsimp only
  rw [o7_C]

theorem outs_8 : (outsAt0 m c t.val t.isLt).2.1 = k0_pay11 (k0_pay5 (iblk m c 1 t)) := by
  rw [outsAt0_C m c t h0 h1]
  dsimp only
  rw [o8_C]

theorem outs_9 : (outsAt0 m c t.val t.isLt).2.2.1 = k0_pay13 (k0_pay4 (iblk m c 1 t)) := by
  rw [outsAt0_C m c t h0 h1]
  dsimp only
  rw [o9_C]

theorem outs_10 : (outsAt0 m c t.val t.isLt).2.2.2.1 = k0_pay12 (k0_pay8 (iblk m c 2 t)) k0_pay9 := by
  rw [outsAt0_C m c t h0 h1]
  dsimp only
  rw [o10_C]

theorem outs_11 : (outsAt0 m c t.val t.isLt).2.2.2.2.1 = k0_pay14 (k0_pay7 (iblk m c 2 t)) := by
  rw [outsAt0_C m c t h0 h1]
  dsimp only
  rw [o11_C]

end caseC

/-- The scores of row `r` of batch `b` against the cached tokens. -/
def Sof (b : Fin 4) (r : Fin 64) : ℕ → EReal := fun T =>
  dotScale (fun d => a0 m c (ix3 b 0 ⟨128 * r.val + d.val, by omega⟩))
    (cached (fun T d => a3 m c (ix4 b T ⟨r.val / 4, by omega⟩ d)) (fun T => a4 m c (ix3 b T ⟨r.val / 4, by omega⟩)) T)

/-- The cached values row `r` of batch `b` averages, at column `d`. -/
def Wof (b : Fin 4) (r : Fin 64) (d : Fin 128) : ℕ → EReal := fun T =>
  cached (fun T d => a5 m c (ix4 b T ⟨r.val / 4, by omega⟩ d)) (fun T => a6 m c (ix3 b T ⟨r.val / 4, by omega⟩)) T d

section point
variable (t : Fin cfg0.N) (b : Fin 4) (j : Fin 32) (ht : t.val = 32 * b.val + j.val)
include ht

theorem dq_k (T : Fin 1024) (h : Fin 16) (d : Fin 128) : dq (iblk m c 3 t) (sOf (iblk m c 4 t)) T h d
    = cached (fun T d => a3 m c (ix4 b T h d)) (fun T => a4 m c (ix3 b T h)) (1024 * j.val + T.val) d := by
  refine Eq.trans ?_ (cached_fin _ _ ⟨1024 * j.val + T.val, by omega⟩ d).symm
  unfold dq
  rw [sOf_apply, iblk4_apply m c t b j ht, iblk3_apply m c t b j ht]

theorem dq_v (T : Fin 1024) (h : Fin 16) (d : Fin 128) : dq (iblk m c 5 t) (sOf (iblk m c 6 t)) T h d
    = cached (fun T d => a5 m c (ix4 b T h d)) (fun T => a6 m c (ix3 b T h)) (1024 * j.val + T.val) d := by
  refine Eq.trans ?_ (cached_fin _ _ ⟨1024 * j.val + T.val, by omega⟩ d).symm
  unfold dq
  rw [sOf_apply, iblk6_apply m c t b j ht, iblk5_apply m c t b j ht]

theorem score_point (r : Fin 64) (T : Fin 1024) : score (qOf (iblk m c 0 t)) (iblk m c 3 t) (sOf (iblk m c 4 t)) r T
    = Sof m c b r (1024 * j.val + T.val) := by
  unfold score Sof dotScale
  refine congrArg (· * _) (Finset.sum_congr rfl fun d _ => ?_)
  rw [qOf_apply, iblk0_apply m c t b j ht, dq_k m c t b j ht]
end point

/-- After the `j`th tile of batch `b`, the carried buffers hold the running softmax of its first `1024 * (j + 1)` tokens. -/
theorem holds_at (b : Fin 4) : ∀ (j : ℕ) (hj : j < 32) (hn : 32 * b.val + j < cfg0.N),
    Holds (Sof m c b) (Wof m c b) (1024 * j + 1024) (outsAt0 m c (32 * b.val + j) hn).2.2.2.2.2.1
      (outsAt0 m c (32 * b.val + j) hn).2.2.2.2.2.2.1 (outsAt0 m c (32 * b.val + j) hn).2.2.2.2.2.2.2 := by
  intro j
  induction j with
  | zero =>
    intro hj hn
    have h0 : (32 * b.val + 0) % 32 = 0 := by omega
    have h1 : ¬(32 * b.val + 0) % 32 = 31 := by omega
    have H := holds_step (iblk m c 0 ⟨_, hn⟩) (iblk m c 3 ⟨_, hn⟩) (iblk m c 4 ⟨_, hn⟩) (iblk m c 5 ⟨_, hn⟩) (iblk m c 6 ⟨_, hn⟩)
      (Sof m c b) (Wof m c b) 0 _ _ _ [⟨all64, initM⟩] [⟨all64, initL⟩] [⟨all256, initAcc⟩]
      (fun r T => score_point m c ⟨_, hn⟩ b 0 rfl r T) (fun r d T => dq_v m c ⟨_, hn⟩ b 0 rfl T ⟨r.val / 4, by omega⟩ d)
      (holds_init (Sof m c b) (Wof m c b))
    rw [← outs_m_A m c ⟨_, hn⟩ h0 h1, ← outs_l_A m c ⟨_, hn⟩ h0 h1, ← outs_acc_A m c ⟨_, hn⟩ h0 h1] at H
    exact H
  | succ j ih =>
    intro hj hn
    have h0 : ¬(32 * b.val + (j + 1)) % 32 = 0 := by omega
    have H := holds_step (iblk m c 0 ⟨_, hn⟩) (iblk m c 3 ⟨_, hn⟩) (iblk m c 4 ⟨_, hn⟩) (iblk m c 5 ⟨_, hn⟩) (iblk m c 6 ⟨_, hn⟩)
      (Sof m c b) (Wof m c b) (1024 * (j + 1)) _ _ _ [] [] []
      (fun r T => score_point m c ⟨_, hn⟩ b ⟨j + 1, hj⟩ rfl r T) (fun r d T => dq_v m c ⟨_, hn⟩ b ⟨j + 1, hj⟩ rfl T ⟨r.val / 4, by omega⟩ d)
      (ih (by omega) (by omega))
    rw [List.append_nil, List.append_nil, List.append_nil] at H
    by_cases h1 : (32 * b.val + (j + 1)) % 32 = 31
    · refine (?_ : Holds _ _ _ _ _ _)
      have em := outs_m_C m c ⟨_, hn⟩ h0 h1
      have el := outs_l_C m c ⟨_, hn⟩ h0 h1
      have ea := outs_acc_C m c ⟨_, hn⟩ h0 h1
      exact em ▸ el ▸ ea ▸ H
    · have em := outs_m_B m c ⟨_, hn⟩ h0 h1
      have el := outs_l_B m c ⟨_, hn⟩ h0 h1
      have ea := outs_acc_B m c ⟨_, hn⟩ h0 h1
      exact em ▸ el ▸ ea ▸ H

end Cert.KernelIdeal.Hand
-- ==== Proof.KValue.lean ====
module

public import proofs.«01_k».proof.Proof.Invariant

@[expose] public section

set_option maxRecDepth 16384

noncomputable section

namespace Cert.KernelIdeal.Hand

open Cert.KernelIdeal Cert.KernelIdeal.Gen Cert.KernelIdeal.Value Cert.Softmax Idealize.ShloMosaic Idealize.ShloMosaic.TcCoe

/-! ## The kernel's results, entry by entry -/

variable (m : (ℓ : Loc nD τ sig) → Buf (Elt Ideal) ℓ) (c : Dev nD)

theorem rowOf_1 (t : Fin cfg0.N) (b : Fin 4) (j : Fin 32) (ht : t.val = 32 * b.val + j.val) (h : Fin 16) :
    rowOf (iblk m c 1 t) h = fun d => a1 m c (ix4 b 0 h d) := funext fun d => iblk1_apply m c t b j ht h d

theorem rowOf_2 (t : Fin cfg0.N) (b : Fin 4) (j : Fin 32) (ht : t.val = 32 * b.val + j.val) (h : Fin 16) :
    rowOf (iblk m c 2 t) h = fun d => a2 m c (ix4 b 0 h d) := funext fun d => iblk2_apply m c t b j ht h d

section last
variable (b : Fin 4) (hn : 32 * b.val + 31 < cfg0.N) (r : Fin 64) (h : Fin 16) (d : Fin 128)

theorem last7 : (outsAt0 m c (32 * b.val + 31) hn).1 (ix3 0 r d)
    = rowOut (fun d => a0 m c (ix3 b 0 ⟨128 * r.val + d.val, by omega⟩)) (fun T d => a3 m c (ix4 b T ⟨r.val / 4, by omega⟩ d))
        (fun T => a4 m c (ix3 b T ⟨r.val / 4, by omega⟩)) (fun T d => a5 m c (ix4 b T ⟨r.val / 4, by omega⟩ d))
        (fun T => a6 m c (ix3 b T ⟨r.val / 4, by omega⟩)) (fun d => a1 m c (ix4 b 0 ⟨r.val / 4, by omega⟩ d))
        (fun d => a2 m c (ix4 b 0 ⟨r.val / 4, by omega⟩ d)) d := by
  have h0 : ¬(32 * b.val + 31) % 32 = 0 := by omega
  have h1 : (32 * b.val + 31) % 32 = 31 := by omega
  have H := holds_at m c b 31 (by omega) hn
  refine (congrFun (outs_7 m c ⟨_, hn⟩ h0 h1) (ix3 0 r d)).trans ?_
  refine (finish_apply _ _ _ _ _ _ r d _ rfl).trans ?_
  have eq0 : (fun d => iblk m c 0 ⟨32 * b.val + 31, hn⟩ (ix3 0 r d)) = fun d => a0 m c (ix3 b 0 ⟨128 * r.val + d.val, by omega⟩) :=
    funext fun d => iblk0_apply m c ⟨32 * b.val + 31, hn⟩ b 31 rfl r d
  rw [eq0, rowOf_1 m c ⟨_, hn⟩ b 31 rfl, rowOf_2 m c ⟨_, hn⟩ b 31 rfl]
  refine Eq.trans ?_ (attend_eq 32768 (Sof m c b r) (Wof m c b r d) _ _)
  rw [H.max r, H.den r, H.num r d]

theorem last8 : (outsAt0 m c (32 * b.val + 31) hn).2.1 (ix3 0 h d) = qCode (fun d => a1 m c (ix4 b 0 h d)) d := by
  refine (congrFun (outs_8 m c ⟨_, hn⟩ (by dsimp only; omega) (by dsimp only; omega)) (ix3 0 h d)).trans ((out8_apply _ h d).trans ?_)
  rw [rowOf_1 m c ⟨_, hn⟩ b 31 rfl]

theorem last9 : (outsAt0 m c (32 * b.val + 31) hn).2.2.1 (ix3 0 h 0) = qScale (fun d => a1 m c (ix4 b 0 h d)) := by
  refine (congrFun (outs_9 m c ⟨_, hn⟩ (by dsimp only; omega) (by dsimp only; omega)) (ix3 0 h 0)).trans ((out9_apply _ h).trans ?_)
  rw [rowOf_1 m c ⟨_, hn⟩ b 31 rfl]

theorem last10 : (outsAt0 m c (32 * b.val + 31) hn).2.2.2.1 (ix3 0 h d) = qCode (fun d => a2 m c (ix4 b 0 h d)) d := by
  refine (congrFun (outs_10 m c ⟨_, hn⟩ (by dsimp only; omega) (by dsimp only; omega)) (ix3 0 h d)).trans ((out10_apply _ h d).trans ?_)
  rw [rowOf_2 m c ⟨_, hn⟩ b 31 rfl]

theorem last11 : (outsAt0 m c (32 * b.val + 31) hn).2.2.2.2.1 (ix3 0 h 0) = qScale (fun d => a2 m c (ix4 b 0 h d)) := by
  refine (congrFun (outs_11 m c ⟨_, hn⟩ (by dsimp only; omega) (by dsimp only; omega)) (ix3 0 h 0)).trans ((out11_apply _ h).trans ?_)
  rw [rowOf_2 m c ⟨_, hn⟩ b 31 rfl]
end last

variable (b : Fin 4) (r : Fin 64) (h : Fin 16) (d : Fin 128)

theorem lastPt : 32 * b.val + 31 < cfg0.N := lt_of_lt_of_eq (by omega) N_0.symm

theorem G7_apply : G7 m c (ix3 b r d)
    = rowOut (fun d => a0 m c (ix3 b 0 ⟨128 * r.val + d.val, by omega⟩)) (fun T d => a3 m c (ix4 b T ⟨r.val / 4, by omega⟩ d))
        (fun T => a4 m c (ix3 b T ⟨r.val / 4, by omega⟩)) (fun T d => a5 m c (ix4 b T ⟨r.val / 4, by omega⟩ d))
        (fun T => a6 m c (ix3 b T ⟨r.val / 4, by omega⟩)) (fun d => a1 m c (ix4 b 0 ⟨r.val / 4, by omega⟩ d))
        (fun d => a2 m c (ix4 b 0 ⟨r.val / 4, by omega⟩ d)) d := by
  have hp : pt7Of (ix3 b r d) = 32 * b.val + 31 := by
    show 32 * (1 * (b.val / 1 - 0) + 1 * (r.val / 64 - 0) + 1 * (d.val / 128 - 0)) + 31 = 32 * b.val + 31
    omega
  have hl : loc7Of (ix3 b r d) = ix3 0 r d := by
    funext a
    apply Fin.ext
    match a with
    | ⟨0, _⟩ => show b.val % 1 = 0; omega
    | ⟨1, _⟩ => show r.val % 64 = r.val; omega
    | ⟨2, _⟩ => show d.val % 128 = d.val; omega
  have hlt : pt7Of (ix3 b r d) < cfg0.N := hp ▸ lastPt b
  have key : ∀ n (hn : n < cfg0.N), n = 32 * b.val + 31 → ∀ x, x = ix3 0 r d → (outsAt0 m c n hn).1 x
      = (outsAt0 m c (32 * b.val + 31) (lastPt b)).1 (ix3 0 r d) := by
    rintro n hn rfl x rfl
    rfl
  unfold G7
  rw [dif_pos hlt, ← outsAt0_sweep m c _ hlt]
  exact (key _ hlt hp _ hl).trans (last7 m c b (lastPt b) r d)

theorem G8_apply : G8 m c (ix3 b h d)
    = qCode (fun d => a1 m c (ix4 b 0 h d)) d := by
  have hp : pt8Of (ix3 b h d) = 32 * b.val + 31 := by
    show 32 * (1 * (b.val / 1 - 0) + 1 * (h.val / 16 - 0) + 1 * (d.val / 128 - 0)) + 31 = 32 * b.val + 31
    omega
  have hl : loc8Of (ix3 b h d) = ix3 0 h d := by
    funext a
    apply Fin.ext
    match a with
    | ⟨0, _⟩ => show b.val % 1 = 0; omega
    | ⟨1, _⟩ => show h.val % 16 = h.val; omega
    | ⟨2, _⟩ => show d.val % 128 = d.val; omega
  have hlt : pt8Of (ix3 b h d) < cfg0.N := hp ▸ lastPt b
  have key : ∀ n (hn : n < cfg0.N), n = 32 * b.val + 31 → ∀ x, x = ix3 0 h d → (outsAt0 m c n hn).2.1 x
      = (outsAt0 m c (32 * b.val + 31) (lastPt b)).2.1 (ix3 0 h d) := by
    rintro n hn rfl x rfl
    rfl
  unfold G8
  rw [dif_pos hlt, ← outsAt0_sweep m c _ hlt]
  exact (key _ hlt hp _ hl).trans (last8 m c b (lastPt b) h d)

theorem G9_apply : G9 m c (ix3 b h 0)
    = qScale (fun d => a1 m c (ix4 b 0 h d)) := by
  have hp : pt9Of (ix3 b h 0) = 32 * b.val + 31 := by
    show 32 * (1 * (b.val / 1 - 0) + 1 * (h.val / 16 - 0) + 1 * (0 / 1 - 0)) + 31 = 32 * b.val + 31
    omega
  have hl : loc9Of (ix3 b h 0) = ix3 0 h 0 := by
    funext a
    apply Fin.ext
    match a with
    | ⟨0, _⟩ => show b.val % 1 = 0; omega
    | ⟨1, _⟩ => show h.val % 16 = h.val; omega
    | ⟨2, _⟩ => show 0 % 1 = 0; omega
  have hlt : pt9Of (ix3 b h 0) < cfg0.N := hp ▸ lastPt b
  have key : ∀ n (hn : n < cfg0.N), n = 32 * b.val + 31 → ∀ x, x = ix3 0 h 0 → (outsAt0 m c n hn).2.2.1 x
      = (outsAt0 m c (32 * b.val + 31) (lastPt b)).2.2.1 (ix3 0 h 0) := by
    rintro n hn rfl x rfl
    rfl
  unfold G9
  rw [dif_pos hlt, ← outsAt0_sweep m c _ hlt]
  exact (key _ hlt hp _ hl).trans (last9 m c b (lastPt b) h)

theorem G10_apply : G10 m c (ix3 b h d)
    = qCode (fun d => a2 m c (ix4 b 0 h d)) d := by
  have hp : pt10Of (ix3 b h d) = 32 * b.val + 31 := by
    show 32 * (1 * (b.val / 1 - 0) + 1 * (h.val / 16 - 0) + 1 * (d.val / 128 - 0)) + 31 = 32 * b.val + 31
    omega
  have hl : loc10Of (ix3 b h d) = ix3 0 h d := by
    funext a
    apply Fin.ext
    match a with
    | ⟨0, _⟩ => show b.val % 1 = 0; omega
    | ⟨1, _⟩ => show h.val % 16 = h.val; omega
    | ⟨2, _⟩ => show d.val % 128 = d.val; omega
  have hlt : pt10Of (ix3 b h d) < cfg0.N := hp ▸ lastPt b
  have key : ∀ n (hn : n < cfg0.N), n = 32 * b.val + 31 → ∀ x, x = ix3 0 h d → (outsAt0 m c n hn).2.2.2.1 x
      = (outsAt0 m c (32 * b.val + 31) (lastPt b)).2.2.2.1 (ix3 0 h d) := by
    rintro n hn rfl x rfl
    rfl
  unfold G10
  rw [dif_pos hlt, ← outsAt0_sweep m c _ hlt]
  exact (key _ hlt hp _ hl).trans (last10 m c b (lastPt b) h d)

theorem G11_apply : G11 m c (ix3 b h 0)
    = qScale (fun d => a2 m c (ix4 b 0 h d)) := by
  have hp : pt11Of (ix3 b h 0) = 32 * b.val + 31 := by
    show 32 * (1 * (b.val / 1 - 0) + 1 * (h.val / 16 - 0) + 1 * (0 / 1 - 0)) + 31 = 32 * b.val + 31
    omega
  have hl : loc11Of (ix3 b h 0) = ix3 0 h 0 := by
    funext a
    apply Fin.ext
    match a with
    | ⟨0, _⟩ => show b.val % 1 = 0; omega
    | ⟨1, _⟩ => show h.val % 16 = h.val; omega
    | ⟨2, _⟩ => show 0 % 1 = 0; omega
  have hlt : pt11Of (ix3 b h 0) < cfg0.N := hp ▸ lastPt b
  have key : ∀ n (hn : n < cfg0.N), n = 32 * b.val + 31 → ∀ x, x = ix3 0 h 0 → (outsAt0 m c n hn).2.2.2.2.1 x
      = (outsAt0 m c (32 * b.val + 31) (lastPt b)).2.2.2.2.1 (ix3 0 h 0) := by
    rintro n hn rfl x rfl
    rfl
  unfold G11
  rw [dif_pos hlt, ← outsAt0_sweep m c _ hlt]
  exact (key _ hlt hp _ hl).trans (last11 m c b (lastPt b) h)

end Cert.KernelIdeal.Hand
-- ==== Proof.RefQuant.lean ====
module

public import proofs.«01_k».proof.Proof.Gen.ReferenceIdeal.Value
public import proofs.«01_k».proof.Proof.Spec

@[expose] public section

set_option maxRecDepth 16384

noncomputable section

namespace Cert.ReferenceIdeal.Hand

open Cert.ReferenceIdeal Cert.ReferenceIdeal.Gen Cert.Softmax Idealize.ShloMosaic

/-- Row `(b, h)` of the new tokens' keys or values. -/
abbrev rowOf (x : Vec Ideal S4x16x128 .bf16) (b : Fin 4) (h : Fin 16) : Fin 128 → EReal := fun d => x (ix3 b h d)

section
variable (x : Vec Ideal S4x16x128 .bf16) (b : Fin 4) (h : Fin 16) (d : Fin 128)

theorem pay4_apply : k0_pay4 x (ix3 b h 0) = qScale (rowOf x b h) := by
  unfold_payloads
  pointwise
  rfl

theorem pay7_apply : k0_pay7 x (ix3 b h 0) = qScale (rowOf x b h) := by
  unfold_payloads
  pointwise
  rfl

theorem pay5_apply : k0_pay5 x (ix3 b h d) = qCode (rowOf x b h) d := by
  unfold k0_pay5 k0_pay3
  pointwise
  rw [pay4_apply]
  rfl

theorem pay9_apply : k0_pay9 (k0_pay8 x) 4294967169#32 127#32 (ix3 b h d) = qCode (rowOf x b h) d := by
  unfold k0_pay9 k0_pay8 k0_pay6
  pointwise
  rw [pay7_apply]
  rfl
end

/-- The head of a flat index over batches and heads. -/
theorem pay11_apply (x : Vec Ideal S4x16x128 .bf16) (g : Fin 64) (d : Fin 128) :
    k0_pay11 (k0_pay7 x) (k0_pay8 x) 4294967169#32 127#32 (ix3 g 0 d)
      = qVal (rowOf x ⟨g.val / 16, by omega⟩ ⟨g.val % 16, by omega⟩) d := by
  unfold qVal k0_pay11
  rw [← pay7_apply, ← pay9_apply]
  generalize k0_pay7 x = c
  generalize k0_pay9 (k0_pay8 x) 4294967169#32 127#32 = c'
  pointwise

theorem pay13_apply (q : Vec Ideal S64x4x128 .bf16) (x : Vec Ideal S4x16x128 .bf16) (g : Fin 64) (e : Fin 4) :
    k0_pay13 (k0_pay2 q) (k0_pay4 x) (k0_pay5 x) (ix3 g e 0)
      = dotScale (fun d => q (ix3 g e d)) (qVal (rowOf x ⟨g.val / 16, by omega⟩ ⟨g.val % 16, by omega⟩)) := by
  unfold dotScale qVal k0_pay13
  simp only [← pay4_apply, ← pay5_apply]
  generalize k0_pay4 x = c
  generalize k0_pay5 x = c'
  unfold k0_pay2
  pointwise

theorem pay10_apply (c : Vec Ideal S64x32768x128 .i8) (s : Vec Ideal S64x32768x1 .f32) (g : Fin 64) (T : Fin 32768) (d : Fin 128) :
    k0_pay10 c s (ix3 g T d) = ((c (ix3 g T d)).toInt : ℝ) * s (ix3 g T 0) := by
  unfold k0_pay10
  pointwise
  rfl

theorem pay12_apply (q : Vec Ideal S64x4x128 .bf16) (c : Vec Ideal S64x32768x128 .i8) (s : Vec Ideal S64x32768x1 .f32)
    (g : Fin 64) (e : Fin 4) (T : Fin 32768) :
    k0_pay12 (k0_pay2 q) c s (ix3 g e T)
      = dotScale (fun d => q (ix3 g e d)) (fun d => ((c (ix3 g T d)).toInt : ℝ) * s (ix3 g T 0)) := by
  unfold k0_pay12 dotScale k0_pay2
  pointwise
  rfl

end Cert.ReferenceIdeal.Hand
-- ==== Proof.RefAttn.lean ====
module

public import proofs.«01_k».proof.Proof.RefQuant

@[expose] public section

set_option maxRecDepth 16384

noncomputable section

namespace Cert.ReferenceIdeal.Hand

open Cert.ReferenceIdeal Cert.ReferenceIdeal.Gen Cert.Softmax Idealize.ShloMosaic

theorem negInf_eq : Ideal.ofBits FTy.f32 4286578688#32 = ⊥ := by simp [Ideal.ofBits, Ideal.ieee]

variable (s : FVec Ideal S64x4x32768 .f32) (n k M : FVec Ideal S64x4x1 .f32) (P : FVec Ideal S64x4x32768 .f32)
variable (Pn : FVec Ideal S64x4x1 .f32)
variable (w : FVec Ideal S64x32768x128 .bf16) (v : FVec Ideal S64x1x128 .bf16)
variable (g : Fin 64) (e : Fin 4) (d : Fin 128)

/-- The new token's scores under the causal mask. -/
def rMask : FVec Ideal S64x4x1 .f32 := select k0_pay14 n (broadcast S64x4x1 (Scalar.ofBits .f32 0xFF800000#32))
/-- The row maxima over the cached and the new scores. -/
def rMax : FVec Ideal S64x4x1 .f32 :=
  maximumf (shapeCast S64x4x1 (multiReduction .maximumf [2] S64x4 s 0xFF800000#32 reduces_S64x4x32768_S64x4 (.inl rfl) rfl) shapeCasts_S64x4_S64x4x1)
    (shapeCast S64x4x1 (multiReduction .maximumf [2] S64x4 k 0xFF800000#32 reduces_S64x4x1_S64x4 (.inl rfl) rfl) shapeCasts_S64x4_S64x4x1)
/-- The cached tokens' weights. -/
def rP : FVec Ideal S64x4x32768 .f32 := exp (subf s (broadcastTo S64x4x32768 M broadcasts_S64x4x1_S64x4x32768))
/-- The new token's weight. -/
def rPn : FVec Ideal S64x4x1 .f32 := exp (subf k M)
/-- The sum of the weights. -/
def rL : FVec Ideal S64x4x1 .f32 :=
  addf (shapeCast S64x4x1 (multiReduction .add [2] S64x4 P 0x00000000#32 reduces_S64x4x32768_S64x4 (.inl rfl) rfl) shapeCasts_S64x4_S64x4x1)
    (shapeCast S64x4x1 (multiReduction .add [2] S64x4 Pn 0x00000000#32 reduces_S64x4x1_S64x4 (.inl rfl) rfl) shapeCasts_S64x4_S64x4x1)
/-- The weighted sum of the values. -/
def rAcc : FVec Ideal S64x4x128 .f32 :=
  addf (matmul dot_S64x4x32768_S64x32768x128_S64x4x128_2_1_1_2_0_0 none (truncf .bf16 P bitsLt_bf16_f32) w (constant S64x4x128 .f32 0x00000000#32))
    (matmul dot_S64x4x1_S64x1x128_S64x4x128_2_1_1_2_0_0 none (truncf .bf16 Pn bitsLt_bf16_f32) v (constant S64x4x128 .f32 0x00000000#32))
/-- The quotient, one row per batch and query head. -/
def rOut (A : FVec Ideal S64x4x128 .f32) (L : FVec Ideal S64x4x1 .f32) : FVec Ideal S4x64x128 .bf16 :=
  shapeCast S4x64x128 (truncf .bf16 (divf A (broadcastTo S64x4x128 L broadcasts_S64x4x1_S64x4x128)) bitsLt_bf16_f32) shapeCasts_S64x4x128_S4x64x128

theorem pay1_eq : k0_pay1 w v s n k0_pay14 (Scalar.ofBits .f32 0xFF800000#32)
    = rOut (rAcc (rP s (rMax s (rMask n))) (rPn (rMask n) (rMax s (rMask n))) w v)
        (rL (rP s (rMax s (rMask n))) (rPn (rMask n) (rMax s (rMask n)))) := rfl

theorem rMask_apply : rMask n (ix3 g e 0) = n (ix3 g e 0) := by
  unfold rMask k0_pay14
  pointwise
  rfl

theorem rTop_apply (y : EReal) (hy : (Finset.univ : Finset (Fin 32768)).fold max ⊥ (fun T => s (ix3 g e T)) = y) :
    multiReduction .maximumf [2] S64x4 s 0xFF800000#32 reduces_S64x4x32768_S64x4 (.inl rfl) rfl (ix2 g e) = y := by
  pointwise
  rw [negInf_eq, hy]

theorem rTopN_apply :
    multiReduction .maximumf [2] S64x4 k 0xFF800000#32 reduces_S64x4x1_S64x4 (.inl rfl) rfl (ix2 g e) = k (ix3 g e 0) := by
  pointwise
  rw [negInf_eq, fold_fin_one (fun x : Fin 1 => k (ix3 g e x))]

theorem rMax_aux (a b : FVec Ideal S64x4 .f32) :
    maximumf (shapeCast S64x4x1 a shapeCasts_S64x4_S64x4x1) (shapeCast S64x4x1 b shapeCasts_S64x4_S64x4x1) (ix3 g e 0)
      = max (a (ix2 g e)) (b (ix2 g e)) := by
  pointwise

theorem rMax_apply : rMax s k (ix3 g e 0)
    = max (Finset.univ.sup fun T : Fin 32768 => s (ix3 g e T)) (k (ix3 g e 0)) := by
  unfold rMax
  rw [rMax_aux, rTop_apply s g e _ (fold_eq_sup (fun T : Fin 32768 => s (ix3 g e T))), rTopN_apply k g e]

theorem rP_apply (T : Fin 32768) : rP s M (ix3 g e T) = Ideal.exp (s (ix3 g e T) - M (ix3 g e 0)) := by
  unfold rP
  pointwise

theorem rPn_apply : rPn k M (ix3 g e 0) = Ideal.exp (k (ix3 g e 0) - M (ix3 g e 0)) := by
  unfold rPn
  pointwise

theorem rL_apply : rL P Pn (ix3 g e 0) = (∑ T, P (ix3 g e T)) + Pn (ix3 g e 0) := by
  obtain ⟨y, hy⟩ : ∃ y, y = (∑ T, P (ix3 g e T)) + Pn (ix3 g e 0) := ⟨_, rfl⟩
  rw [← hy]
  unfold rL
  pointwise
  rw [hy, sum_fin_one]

theorem rAcc_apply : rAcc P Pn w v (ix3 g e d) = (∑ T, P (ix3 g e T) * w (ix3 g T d)) + Pn (ix3 g e 0) * v (ix3 g 0 d) := by
  obtain ⟨y, hy⟩ : ∃ y, y = (∑ T, P (ix3 g e T) * w (ix3 g T d)) + Pn (ix3 g e 0) * v (ix3 g 0 d) := ⟨_, rfl⟩
  rw [← hy]
  unfold rAcc
  pointwise
  rw [hy, sum_fin_one]

theorem rOut_apply (A : FVec Ideal S64x4x128 .f32) (L : FVec Ideal S64x4x1 .f32) (b : Fin 4) (r : Fin 64) :
    rOut A L (ix3 b r d) = Ideal.div (A (ix3 ⟨b.val * 16 + r.val / 4, by omega⟩ ⟨r.val % 4, by omega⟩ d))
      (L (ix3 ⟨b.val * 16 + r.val / 4, by omega⟩ ⟨r.val % 4, by omega⟩ 0)) := by
  unfold rOut
  pointwise

theorem pay1_apply (b : Fin 4) (r : Fin 64) (S W : ℕ → EReal) (sn vn : EReal)
    (hg : g = ⟨b.val * 16 + r.val / 4, by omega⟩) (he : e = ⟨r.val % 4, by omega⟩)
    (hS : ∀ T : Fin 32768, s (ix3 g e T) = S T.val) (hW : ∀ T : Fin 32768, w (ix3 g T d) = W T.val)
    (hn : n (ix3 g e 0) = sn) (hv : v (ix3 g 0 d) = vn) :
    k0_pay1 w v s n k0_pay14 (Scalar.ofBits .f32 0xFF800000#32) (ix3 b r d) = attend 32768 S W sn vn := by
  rw [pay1_eq, rOut_apply, ← hg, ← he, rAcc_apply, rL_apply]
  simp only [rP_apply, rPn_apply, rMax_apply, rMask_apply, hn, hv]
  exact attend_of (fun T : Fin 32768 => s (ix3 g e T)) (fun T : Fin 32768 => w (ix3 g T d)) S W sn vn hS hW

end Cert.ReferenceIdeal.Hand
-- ==== Proof.RefRun.lean ====
module

public import proofs.«01_k».proof.Proof.RefAttn

@[expose] public section

set_option maxRecDepth 16384

noncomputable section

namespace Cert.ReferenceIdeal.Hand

open Cert.ReferenceIdeal Cert.ReferenceIdeal.Gen Cert.ReferenceIdeal.Value Cert.Softmax Idealize.ShloMosaic Idealize.ShloMosaic.TcCoe

variable (m : (ℓ : Loc nD τ sig) → Buf (Elt Ideal) ℓ) (c : Dev nD)

abbrev a0 : Vec Ideal S4x1x8192 .bf16 := m ((c : Thread nD τ).loc main_arg0)
abbrev a1 : Vec Ideal S4x1x16x128 .bf16 := m ((c : Thread nD τ).loc main_arg1)
abbrev a2 : Vec Ideal S4x1x16x128 .bf16 := m ((c : Thread nD τ).loc main_arg2)
abbrev a3 : Vec Ideal S4x32768x16x128 .i8 := m ((c : Thread nD τ).loc main_arg3)
abbrev a4 : Vec Ideal S4x32768x16 .f32 := m ((c : Thread nD τ).loc main_arg4)
abbrev a5 : Vec Ideal S4x32768x16x128 .i8 := m ((c : Thread nD τ).loc main_arg5)
abbrev a6 : Vec Ideal S4x32768x16 .f32 := m ((c : Thread nD τ).loc main_arg6)

theorem V_v0 : V m c main_v0 = shapeCast S64x4x128 (a0 m c) shapeCasts_S4x1x8192_S64x4x128 := by
  show StableHlo.after hostOps0 _ (Proc.devRef .tc main_v0) = _
  after_results
  rfl
theorem V_v1 : V m c main_v1 = shapeCast S4x16x128 (a1 m c) shapeCasts_S4x1x16x128_S4x16x128 := by
  show StableHlo.after hostOps0 _ (Proc.devRef .tc main_v1) = _
  after_results
  rfl
theorem V_v2 : V m c main_v2 = shapeCast S4x16x128 (a2 m c) shapeCasts_S4x1x16x128_S4x16x128 := by
  show StableHlo.after hostOps0 _ (Proc.devRef .tc main_v2) = _
  after_results
  rfl
theorem V_v4 : V m c main_v4 = shapeCast S64x32768x128 (transpose S4x16x32768x128 [0, 2, 1, 3] (a3 m c) transposes_S4x32768x16x128_S4x16x32768x128_0_2_1_3) shapeCasts_S4x16x32768x128_S64x32768x128 := by
  show StableHlo.after hostOps0 _ (Proc.devRef .tc main_v4) = _
  after_results
  rfl
theorem V_v6 : V m c main_v6 = shapeCast S64x32768x1 (transpose S4x16x32768 [0, 2, 1] (a4 m c) transposes_S4x32768x16_S4x16x32768_0_2_1) shapeCasts_S4x16x32768_S64x32768x1 := by
  show StableHlo.after hostOps0 _ (Proc.devRef .tc main_v6) = _
  after_results
  rfl
theorem V_v8 : V m c main_v8 = shapeCast S64x32768x128 (transpose S4x16x32768x128 [0, 2, 1, 3] (a5 m c) transposes_S4x32768x16x128_S4x16x32768x128_0_2_1_3) shapeCasts_S4x16x32768x128_S64x32768x128 := by
  show StableHlo.after hostOps0 _ (Proc.devRef .tc main_v8) = _
  after_results
  rfl
theorem V_v10 : V m c main_v10 = shapeCast S64x32768x1 (transpose S4x16x32768 [0, 2, 1] (a6 m c) transposes_S4x32768x16_S4x16x32768_0_2_1) shapeCasts_S4x16x32768_S64x32768x1 := by
  show StableHlo.after hostOps0 _ (Proc.devRef .tc main_v10) = _
  after_results
  rfl

theorem iblk0 (t : Fin cfg0.N) : iblk m c 0 t = V m c main_v0 := by
  have hz : (fun a => win0_0.index t a * main_v0.ty.shape.size a) = fun _ => 0 := by
    revert t
    exact (by decide +kernel : ∀ t : Fin grid0.N, (fun a => win0_0.index t a * main_v0.ty.shape.size a) = fun _ => 0)
  exact Memref.read_access_unit_zero (Elt Ideal) main_v0 hz (fun a => by rw [congrFun hz a]; simp) (V m c main_v0)

theorem iblk1 (t : Fin cfg0.N) : iblk m c 1 t = V m c main_v1 := by
  have hz : (fun a => win0_1.index t a * main_v1.ty.shape.size a) = fun _ => 0 := by
    revert t
    exact (by decide +kernel : ∀ t : Fin grid0.N, (fun a => win0_1.index t a * main_v1.ty.shape.size a) = fun _ => 0)
  exact Memref.read_access_unit_zero (Elt Ideal) main_v1 hz (fun a => by rw [congrFun hz a]; simp) (V m c main_v1)

theorem iblk2 (t : Fin cfg0.N) : iblk m c 2 t = V m c main_v2 := by
  have hz : (fun a => win0_2.index t a * main_v2.ty.shape.size a) = fun _ => 0 := by
    revert t
    exact (by decide +kernel : ∀ t : Fin grid0.N, (fun a => win0_2.index t a * main_v2.ty.shape.size a) = fun _ => 0)
  exact Memref.read_access_unit_zero (Elt Ideal) main_v2 hz (fun a => by rw [congrFun hz a]; simp) (V m c main_v2)

theorem iblk3 (t : Fin cfg0.N) : iblk m c 3 t = V m c main_v4 := by
  have hz : (fun a => win0_3.index t a * main_v4.ty.shape.size a) = fun _ => 0 := by
    revert t
    exact (by decide +kernel : ∀ t : Fin grid0.N, (fun a => win0_3.index t a * main_v4.ty.shape.size a) = fun _ => 0)
  exact Memref.read_access_unit_zero (Elt Ideal) main_v4 hz (fun a => by rw [congrFun hz a]; simp) (V m c main_v4)

theorem iblk4 (t : Fin cfg0.N) : iblk m c 4 t = V m c main_v6 := by
  have hz : (fun a => win0_4.index t a * main_v6.ty.shape.size a) = fun _ => 0 := by
    revert t
    exact (by decide +kernel : ∀ t : Fin grid0.N, (fun a => win0_4.index t a * main_v6.ty.shape.size a) = fun _ => 0)
  exact Memref.read_access_unit_zero (Elt Ideal) main_v6 hz (fun a => by rw [congrFun hz a]; simp) (V m c main_v6)

theorem iblk5 (t : Fin cfg0.N) : iblk m c 5 t = V m c main_v8 := by
  have hz : (fun a => win0_5.index t a * main_v8.ty.shape.size a) = fun _ => 0 := by
    revert t
    exact (by decide +kernel : ∀ t : Fin grid0.N, (fun a => win0_5.index t a * main_v8.ty.shape.size a) = fun _ => 0)
  exact Memref.read_access_unit_zero (Elt Ideal) main_v8 hz (fun a => by rw [congrFun hz a]; simp) (V m c main_v8)

theorem iblk6 (t : Fin cfg0.N) : iblk m c 6 t = V m c main_v10 := by
  have hz : (fun a => win0_6.index t a * main_v10.ty.shape.size a) = fun _ => 0 := by
    revert t
    exact (by decide +kernel : ∀ t : Fin grid0.N, (fun a => win0_6.index t a * main_v10.ty.shape.size a) = fun _ => 0)
  exact Memref.read_access_unit_zero (Elt Ideal) main_v10 hz (fun a => by rw [congrFun hz a]; simp) (V m c main_v10)

theorem arr7 : (dats m 0 c).arrAt 7 cfg0.N = out0_7 (V m c main_v0) (V m c main_v1) (V m c main_v2) (V m c main_v4) (V m c main_v6) (V m c main_v8) (V m c main_v10) := by
  let t : Fin grid0.N := ⟨0, by decide +kernel⟩
  have hf : (cfg0.win 7).flush t = true := (by decide +kernel : ∀ t : Fin grid0.N, win0_7.flush t = true) t
  have hz : (fun a => win0_7.index t a * main_v11_0.ty.shape.size a) = fun _ => 0 :=
    (by decide +kernel : ∀ t : Fin grid0.N, (fun a => win0_7.index t a * main_v11_0.ty.shape.size a) = fun _ => 0) t
  have h := blocks7 m c t hf
  rw [flushed7, iblk0, iblk1, iblk2, iblk3, iblk4, iblk5, iblk6] at h
  exact (Memref.read_access_unit_zero (Elt Ideal) main_v11_0 hz (fun a => by rw [congrFun hz a]; simp) ((dats m 0 c).arrAt 7 cfg0.N)).symm.trans h

theorem arr8 : (dats m 0 c).arrAt 8 cfg0.N = out0_8 (V m c main_v0) (V m c main_v1) (V m c main_v2) (V m c main_v4) (V m c main_v6) (V m c main_v8) (V m c main_v10) := by
  let t : Fin grid0.N := ⟨0, by decide +kernel⟩
  have hf : (cfg0.win 8).flush t = true := (by decide +kernel : ∀ t : Fin grid0.N, win0_8.flush t = true) t
  have hz : (fun a => win0_8.index t a * main_v11_1.ty.shape.size a) = fun _ => 0 :=
    (by decide +kernel : ∀ t : Fin grid0.N, (fun a => win0_8.index t a * main_v11_1.ty.shape.size a) = fun _ => 0) t
  have h := blocks8 m c t hf
  rw [flushed8, iblk0, iblk1, iblk2, iblk3, iblk4, iblk5, iblk6] at h
  exact (Memref.read_access_unit_zero (Elt Ideal) main_v11_1 hz (fun a => by rw [congrFun hz a]; simp) ((dats m 0 c).arrAt 8 cfg0.N)).symm.trans h

theorem arr9 : (dats m 0 c).arrAt 9 cfg0.N = out0_9 (V m c main_v0) (V m c main_v1) (V m c main_v2) (V m c main_v4) (V m c main_v6) (V m c main_v8) (V m c main_v10) := by
  let t : Fin grid0.N := ⟨0, by decide +kernel⟩
  have hf : (cfg0.win 9).flush t = true := (by decide +kernel : ∀ t : Fin grid0.N, win0_9.flush t = true) t
  have hz : (fun a => win0_9.index t a * main_v11_2.ty.shape.size a) = fun _ => 0 :=
    (by decide +kernel : ∀ t : Fin grid0.N, (fun a => win0_9.index t a * main_v11_2.ty.shape.size a) = fun _ => 0) t
  have h := blocks9 m c t hf
  rw [flushed9, iblk0, iblk1, iblk2, iblk3, iblk4, iblk5, iblk6] at h
  exact (Memref.read_access_unit_zero (Elt Ideal) main_v11_2 hz (fun a => by rw [congrFun hz a]; simp) ((dats m 0 c).arrAt 9 cfg0.N)).symm.trans h

theorem arr10 : (dats m 0 c).arrAt 10 cfg0.N = out0_10 (V m c main_v0) (V m c main_v1) (V m c main_v2) (V m c main_v4) (V m c main_v6) (V m c main_v8) (V m c main_v10) := by
  let t : Fin grid0.N := ⟨0, by decide +kernel⟩
  have hf : (cfg0.win 10).flush t = true := (by decide +kernel : ∀ t : Fin grid0.N, win0_10.flush t = true) t
  have hz : (fun a => win0_10.index t a * main_v11_3.ty.shape.size a) = fun _ => 0 :=
    (by decide +kernel : ∀ t : Fin grid0.N, (fun a => win0_10.index t a * main_v11_3.ty.shape.size a) = fun _ => 0) t
  have h := blocks10 m c t hf
  rw [flushed10, iblk0, iblk1, iblk2, iblk3, iblk4, iblk5, iblk6] at h
  exact (Memref.read_access_unit_zero (Elt Ideal) main_v11_3 hz (fun a => by rw [congrFun hz a]; simp) ((dats m 0 c).arrAt 10 cfg0.N)).symm.trans h

theorem arr11 : (dats m 0 c).arrAt 11 cfg0.N = out0_11 (V m c main_v0) (V m c main_v1) (V m c main_v2) (V m c main_v4) (V m c main_v6) (V m c main_v8) (V m c main_v10) := by
  let t : Fin grid0.N := ⟨0, by decide +kernel⟩
  have hf : (cfg0.win 11).flush t = true := (by decide +kernel : ∀ t : Fin grid0.N, win0_11.flush t = true) t
  have hz : (fun a => win0_11.index t a * main_v11_4.ty.shape.size a) = fun _ => 0 :=
    (by decide +kernel : ∀ t : Fin grid0.N, (fun a => win0_11.index t a * main_v11_4.ty.shape.size a) = fun _ => 0) t
  have h := blocks11 m c t hf
  rw [flushed11, iblk0, iblk1, iblk2, iblk3, iblk4, iblk5, iblk6] at h
  exact (Memref.read_access_unit_zero (Elt Ideal) main_v11_4 hz (fun a => by rw [congrFun hz a]; simp) ((dats m 0 c).arrAt 11 cfg0.N)).symm.trans h

end Cert.ReferenceIdeal.Hand
-- ==== Proof.RefValue.lean ====
module

public import proofs.«01_k».proof.Proof.RefRun

@[expose] public section

set_option maxRecDepth 16384

noncomputable section

namespace Cert.ReferenceIdeal.Hand

open Cert.ReferenceIdeal Cert.ReferenceIdeal.Gen Cert.Softmax Idealize.ShloMosaic Idealize.ShloMosaic.TcCoe

theorem hz3 : (![0, 0, 0] : Fin 3 → Nat) = fun _ => 0 := funext fun a => by fin_cases a <;> rfl

section
variable (b : Fin 4) (r : Fin 64) (d : Fin 128) (T : Fin 32768) (h : Fin 16)

theorem q_at (a : Vec Ideal S4x1x8192 .bf16) (g : Fin 64) (e : Fin 4) (hg : g = ⟨b.val * 16 + r.val / 4, by omega⟩)
    (he : e = ⟨r.val % 4, by omega⟩) :
    shapeCast S64x4x128 a shapeCasts_S4x1x8192_S64x4x128 (ix3 g e d) = a (ix3 b 0 ⟨128 * r.val + d.val, by omega⟩) := by
  have h1 : (⟨g.val / 16, by omega⟩ : Fin 4) = b := Fin.ext (by show g.val / 16 = b.val; rw [hg]; show (b.val * 16 + r.val / 4) / 16 = b.val; omega)
  have h2 : (⟨g.val % 16 * 512 + e.val * 128 + d.val, by omega⟩ : Fin 8192) = ⟨128 * r.val + d.val, by omega⟩ :=
    Fin.ext (by
      show g.val % 16 * 512 + e.val * 128 + d.val = 128 * r.val + d.val
      rw [hg, he]
      show (b.val * 16 + r.val / 4) % 16 * 512 + r.val % 4 * 128 + d.val = 128 * r.val + d.val
      omega)
  rw [← h1, ← h2]
  pointwise

theorem new_at (a : Vec Ideal S4x1x16x128 .bf16) : shapeCast S4x16x128 a shapeCasts_S4x1x16x128_S4x16x128 (ix3 b h d) = a (ix4 b 0 h d) := by
  pointwise

theorem codes_at (a : Vec Ideal S4x32768x16x128 .i8) (g : Fin 64) (hg : g = ⟨b.val * 16 + r.val / 4, by omega⟩) :
    shapeCast S64x32768x128 (transpose S4x16x32768x128 [0, 2, 1, 3] a transposes_S4x32768x16x128_S4x16x32768x128_0_2_1_3)
      shapeCasts_S4x16x32768x128_S64x32768x128 (ix3 g T d) = a (ix4 b T ⟨r.val / 4, by omega⟩ d) := by
  have h1 : (⟨g.val / 16, by omega⟩ : Fin 4) = b := Fin.ext (by show g.val / 16 = b.val; rw [hg]; show (b.val * 16 + r.val / 4) / 16 = b.val; omega)
  have h2 : (⟨g.val % 16, by omega⟩ : Fin 16) = ⟨r.val / 4, by omega⟩ := Fin.ext (by show g.val % 16 = r.val / 4; rw [hg]; show (b.val * 16 + r.val / 4) % 16 = r.val / 4; omega)
  rw [← h1, ← h2]
  pointwise

theorem scales_at (a : Vec Ideal S4x32768x16 .f32) (g : Fin 64) (hg : g = ⟨b.val * 16 + r.val / 4, by omega⟩) :
    shapeCast S64x32768x1 (transpose S4x16x32768 [0, 2, 1] a transposes_S4x32768x16_S4x16x32768_0_2_1)
      shapeCasts_S4x16x32768_S64x32768x1 (ix3 g T 0) = a (ix3 b T ⟨r.val / 4, by omega⟩) := by
  have h1 : (⟨g.val / 16, by omega⟩ : Fin 4) = b := Fin.ext (by show g.val / 16 = b.val; rw [hg]; show (b.val * 16 + r.val / 4) / 16 = b.val; omega)
  have h2 : (⟨g.val % 16, by omega⟩ : Fin 16) = ⟨r.val / 4, by omega⟩ := Fin.ext (by show g.val % 16 = r.val / 4; rw [hg]; show (b.val * 16 + r.val / 4) % 16 = r.val / 4; omega)
  rw [← h1, ← h2]
  pointwise
end

section
variable (y0 : Vec Ideal S64x4x128 .bf16) (y1 y2 : Vec Ideal S4x16x128 .bf16) (y3 : Vec Ideal S64x32768x128 .i8)
  (y4 : Vec Ideal S64x32768x1 .f32) (y5 : Vec Ideal S64x32768x128 .i8) (y6 : Vec Ideal S64x32768x1 .f32)

theorem out7_eq : out0_7 y0 y1 y2 y3 y4 y5 y6 = k0_pay1 (k0_pay10 y5 y6) (k0_pay11 (k0_pay7 y2) (k0_pay8 y2) 4294967169#32 127#32)
    (k0_pay12 (k0_pay2 y0) y3 y4) (k0_pay13 (k0_pay2 y0) (k0_pay4 y1) (k0_pay5 y1)) k0_pay14 (Scalar.ofBits .f32 0xFF800000#32) := by
  unfold_out out0_7
  rw [View.canon_unit_zero (S := S4x64x128) hz3]
  simp only [View.ld_unit_zero (S := S64x4x128) hz3, View.ld_unit_zero (S := S4x16x128) hz3,
    View.ld_unit_zero (S := S64x32768x128) hz3, View.ld_unit_zero (S := S64x32768x1) hz3]

theorem out8_eq : out0_8 y0 y1 y2 y3 y4 y5 y6 = k0_pay5 y1 := by
  unfold_out out0_8
  rw [View.canon_unit_zero (S := S4x16x128) hz3]
  simp only [View.ld_unit_zero (S := S4x16x128) hz3]

theorem out9_eq : out0_9 y0 y1 y2 y3 y4 y5 y6 = k0_pay4 y1 := by
  unfold_out out0_9
  rw [View.canon_unit_zero (S := S4x16x1) hz3]
  simp only [View.ld_unit_zero (S := S4x16x128) hz3]

theorem out10_eq : out0_10 y0 y1 y2 y3 y4 y5 y6 = k0_pay9 (k0_pay8 y2) 4294967169#32 127#32 := by
  unfold_out out0_10
  rw [View.canon_unit_zero (S := S4x16x128) hz3]
  simp only [View.ld_unit_zero (S := S4x16x128) hz3]

theorem out11_eq : out0_11 y0 y1 y2 y3 y4 y5 y6 = k0_pay7 y2 := by
  unfold_out out0_11
  rw [View.canon_unit_zero (S := S4x16x1) hz3]
  simp only [View.ld_unit_zero (S := S4x16x128) hz3]
end

variable (m : (ℓ : Loc nD τ sig) → Buf (Elt Ideal) ℓ) (c : Dev nD) (b : Fin 4)

theorem ref8 (h : Fin 16) (d : Fin 128) : (dats m 0 c).arrAt 8 cfg0.N (ix3 b h d) = qCode (fun d => a1 m c (ix4 b 0 h d)) d := by
  rw [arr8, out8_eq, V_v1]
  refine (pay5_apply _ b h d).trans (congrArg (qCode · d) (funext fun d => new_at b d h _))

theorem ref9 (h : Fin 16) : (dats m 0 c).arrAt 9 cfg0.N (ix3 b h 0) = qScale (fun d => a1 m c (ix4 b 0 h d)) := by
  rw [arr9, out9_eq, V_v1]
  refine (pay4_apply _ b h).trans (congrArg qScale (funext fun d => new_at b d h _))

theorem ref10 (h : Fin 16) (d : Fin 128) : (dats m 0 c).arrAt 10 cfg0.N (ix3 b h d) = qCode (fun d => a2 m c (ix4 b 0 h d)) d := by
  rw [arr10, out10_eq, V_v2]
  refine (pay9_apply _ b h d).trans (congrArg (qCode · d) (funext fun d => new_at b d h _))

theorem ref11 (h : Fin 16) : (dats m 0 c).arrAt 11 cfg0.N (ix3 b h 0) = qScale (fun d => a2 m c (ix4 b 0 h d)) := by
  rw [arr11, out11_eq, V_v2]
  refine (pay7_apply _ b h).trans (congrArg qScale (funext fun d => new_at b d h _))

theorem row_at (a : Vec Ideal S4x1x16x128 .bf16) (r : Fin 64) (g : Fin 64) (hg : g = ⟨b.val * 16 + r.val / 4, by omega⟩) :
    rowOf (shapeCast S4x16x128 a shapeCasts_S4x1x16x128_S4x16x128) ⟨g.val / 16, by omega⟩ ⟨g.val % 16, by omega⟩
      = fun d => a (ix4 b 0 ⟨r.val / 4, by omega⟩ d) := by
  have h1 : (⟨g.val / 16, by omega⟩ : Fin 4) = b := Fin.ext (by show g.val / 16 = b.val; rw [hg]; show (b.val * 16 + r.val / 4) / 16 = b.val; omega)
  have h2 : (⟨g.val % 16, by omega⟩ : Fin 16) = ⟨r.val / 4, by omega⟩ := Fin.ext (by show g.val % 16 = r.val / 4; rw [hg]; show (b.val * 16 + r.val / 4) % 16 = r.val / 4; omega)
  rw [h1, h2]
  exact funext fun d => new_at b d _ a

theorem ref7 (r : Fin 64) (d : Fin 128) : (dats m 0 c).arrAt 7 cfg0.N (ix3 b r d)
    = rowOut (fun d => a0 m c (ix3 b 0 ⟨128 * r.val + d.val, by omega⟩))
        (fun T d => a3 m c (ix4 b T ⟨r.val / 4, by omega⟩ d)) (fun T => a4 m c (ix3 b T ⟨r.val / 4, by omega⟩))
        (fun T d => a5 m c (ix4 b T ⟨r.val / 4, by omega⟩ d)) (fun T => a6 m c (ix3 b T ⟨r.val / 4, by omega⟩))
        (fun d => a1 m c (ix4 b 0 ⟨r.val / 4, by omega⟩ d)) (fun d => a2 m c (ix4 b 0 ⟨r.val / 4, by omega⟩ d)) d := by
  rw [arr7, out7_eq, V_v0, V_v1, V_v2, V_v4, V_v6, V_v8, V_v10]
  unfold rowOut
  obtain ⟨g, hg⟩ : ∃ g : Fin 64, g = ⟨b.val * 16 + r.val / 4, by omega⟩ := ⟨_, rfl⟩
  obtain ⟨e, he⟩ : ∃ e : Fin 4, e = ⟨r.val % 4, by omega⟩ := ⟨_, rfl⟩
  have hq : (fun d => shapeCast S64x4x128 (a0 m c) shapeCasts_S4x1x8192_S64x4x128 (ix3 g e d))
      = fun d => a0 m c (ix3 b 0 ⟨128 * r.val + d.val, by omega⟩) := funext fun d => q_at b r d _ g e hg he
  refine pay1_apply (g := g) (e := e) (d := d) _ _ _ _ b r _ _ _ _ hg he (fun T => ?_) (fun T => ?_) ?_ ?_
  · rw [pay12_apply, hq]
    refine congrArg _ (funext fun d => ?_)
    rw [cached_fin, codes_at b r d T _ g hg, scales_at b r T _ g hg]
  · rw [pay10_apply, cached_fin, codes_at b r d T _ g hg, scales_at b r T _ g hg]
  · rw [pay13_apply, hq, row_at b _ r g hg]
  · rw [pay11_apply, row_at b _ r g hg]

end Cert.ReferenceIdeal.Hand
-- ==== Proof.Agree.lean ====
module

public import proofs.«01_k».proof.Defs
public import proofs.«01_k».proof.Proof.KValue
public import proofs.«01_k».proof.Proof.RefValue

@[expose] public section

set_option maxRecDepth 16384

noncomputable section

namespace Cert.Agree

open Idealize.ShloMosaic Idealize.SL.Sem Cert.Softmax

/-! ## The kernel's five results are the reference's -/

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)
  (h0 : Cert.ReferenceIdeal.Hand.a0 m' c = Cert.KernelIdeal.Hand.a0 m c)
  (h1 : Cert.ReferenceIdeal.Hand.a1 m' c = Cert.KernelIdeal.Hand.a1 m c)
  (h2 : Cert.ReferenceIdeal.Hand.a2 m' c = Cert.KernelIdeal.Hand.a2 m c)
  (h3 : Cert.ReferenceIdeal.Hand.a3 m' c = Cert.KernelIdeal.Hand.a3 m c)
  (h4 : Cert.ReferenceIdeal.Hand.a4 m' c = Cert.KernelIdeal.Hand.a4 m c)
  (h5 : Cert.ReferenceIdeal.Hand.a5 m' c = Cert.KernelIdeal.Hand.a5 m c)
  (h6 : Cert.ReferenceIdeal.Hand.a6 m' c = Cert.KernelIdeal.Hand.a6 m c)

theorem eta3 {n0 n1 n2 : ℕ} (i : (Shape.mk 3 ![n0, n1, n2]).Idx) : i = ix3 (i 0) (i 1) (i 2) := by
  funext a
  match a with
  | ⟨0, _⟩ => rfl
  | ⟨1, _⟩ => rfl
  | ⟨2, _⟩ => rfl

include h0 h1 h2 h3 h4 h5 h6 in
theorem agree7 : (Cert.ReferenceIdeal.Gen.dats m' 0 c).arrAt 7 Cert.ReferenceIdeal.cfg0.N = Cert.KernelIdeal.Value.G7 m c := by
  funext i
  obtain ⟨b, r, d, rfl⟩ : ∃ (b : Fin 4) (r : Fin 64) (d : Fin 128), i = ix3 b r d := ⟨i 0, i 1, i 2, eta3 i⟩
  refine (Cert.ReferenceIdeal.Hand.ref7 m' c b r d).trans (Eq.trans ?_ (Cert.KernelIdeal.Hand.G7_apply m c b r d).symm)
  rw [h0, h1, h2, h3, h4, h5, h6]

include h1 in
theorem agree8 : (Cert.ReferenceIdeal.Gen.dats m' 0 c).arrAt 8 Cert.ReferenceIdeal.cfg0.N = Cert.KernelIdeal.Value.G8 m c := by
  funext i
  obtain ⟨b, h, d, rfl⟩ : ∃ (b : Fin 4) (h : Fin 16) (d : Fin 128), i = ix3 b h d := ⟨i 0, i 1, i 2, eta3 i⟩
  refine (Cert.ReferenceIdeal.Hand.ref8 m' c b h d).trans (Eq.trans ?_ (Cert.KernelIdeal.Hand.G8_apply m c b h d).symm)
  rw [h1]

include h1 in
theorem agree9 : (Cert.ReferenceIdeal.Gen.dats m' 0 c).arrAt 9 Cert.ReferenceIdeal.cfg0.N = Cert.KernelIdeal.Value.G9 m c := by
  funext i
  obtain ⟨b, h, z, rfl⟩ : ∃ (b : Fin 4) (h : Fin 16) (z : Fin 1), i = ix3 b h z := ⟨i 0, i 1, i 2, eta3 i⟩
  obtain rfl : z = 0 := Subsingleton.elim _ _
  refine (Cert.ReferenceIdeal.Hand.ref9 m' c b h).trans (Eq.trans ?_ (Cert.KernelIdeal.Hand.G9_apply m c b h).symm)
  rw [h1]

include h2 in
theorem agree10 : (Cert.ReferenceIdeal.Gen.dats m' 0 c).arrAt 10 Cert.ReferenceIdeal.cfg0.N = Cert.KernelIdeal.Value.G10 m c := by
  funext i
  obtain ⟨b, h, d, rfl⟩ : ∃ (b : Fin 4) (h : Fin 16) (d : Fin 128), i = ix3 b h d := ⟨i 0, i 1, i 2, eta3 i⟩
  refine (Cert.ReferenceIdeal.Hand.ref10 m' c b h d).trans (Eq.trans ?_ (Cert.KernelIdeal.Hand.G10_apply m c b h d).symm)
  rw [h2]

include h2 in
theorem agree11 : (Cert.ReferenceIdeal.Gen.dats m' 0 c).arrAt 11 Cert.ReferenceIdeal.cfg0.N = Cert.KernelIdeal.Value.G11 m c := by
  funext i
  obtain ⟨b, h, z, rfl⟩ : ∃ (b : Fin 4) (h : Fin 16) (z : Fin 1), i = ix3 b h z := ⟨i 0, i 1, i 2, eta3 i⟩
  obtain rfl : z = 0 := Subsingleton.elim _ _
  refine (Cert.ReferenceIdeal.Hand.ref11 m' c b h).trans (Eq.trans ?_ (Cert.KernelIdeal.Hand.G11_apply m c b h).symm)
  rw [h2]

theorem algebraic : Cert.algebraic_KernelIdeal_ReferenceIdeal (hKernelIdeal := Cert.KernelIdeal.Gen.facts)
    (hReferenceIdeal := Cert.ReferenceIdeal.Gen.facts) := by
  intro m ρ m' ρ' _ hag
  refine ⟨fun c => Cert.KernelIdeal.Value.G7 m c, fun c => Cert.KernelIdeal.Value.G8 m c, fun c => Cert.KernelIdeal.Value.G9 m c,
    fun c => Cert.KernelIdeal.Value.G10 m c, fun c => Cert.KernelIdeal.Value.G11 m c, Cert.KernelIdeal.Value.run m ρ, ?_⟩
  refine (θ_run _ _ _).mono (fun _ h c => ?_) (Cert.ReferenceIdeal.Value.run_blocks m' ρ')
  obtain ⟨e7, e8, e9, e10, e11, kept⟩ := h c
  obtain ⟨h0, h1, h2, h3, h4, h5, h6⟩ := hag c
  exact ⟨e7.trans (agree7 m m' c h0 h1 h2 h3 h4 h5 h6), e8.trans (agree8 m m' c h1), e9.trans (agree9 m m' c h1),
    e10.trans (agree10 m m' c h2), e11.trans (agree11 m m' c h2), kept⟩

end Cert.Agree
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Gen.ReferenceIdeal.Value
public import proofs.«01_k».proof.Proof.Agree
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, Cert.Agree.algebraic⟩

end Cert.Proof

end
